-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x8192 : Shape := ⟨2, ![4096, 8192]⟩
abbrev S256x8192 : Shape := ⟨2, ![256, 8192]⟩
abbrev S16x256x256 : Shape := ⟨3, ![16, 256, 256]⟩
abbrev S256x4096 : Shape := ⟨2, ![256, 4096]⟩
abbrev S2x1024x2048 : Shape := ⟨3, ![2, 1024, 2048]⟩
abbrev S8x128 : Shape := ⟨2, ![8, 128]⟩
abbrev S16x8x128 : Shape := ⟨3, ![16, 8, 128]⟩
abbrev S16 : Shape := ⟨1, ![16]⟩
abbrev S2 : Shape := ⟨1, ![2]⟩
abbrev S_ : Shape := ⟨0, ![]⟩
abbrev S256x256 : Shape := ⟨2, ![256, 256]⟩
abbrev S1x256x256 : Shape := ⟨3, ![1, 256, 256]⟩
abbrev S1 : Shape := ⟨1, ![1]⟩
abbrev S1x1024x2048 : Shape := ⟨3, ![1, 1024, 2048]⟩
abbrev S1024x2048 : Shape := ⟨2, ![1024, 2048]⟩
abbrev S256x1024 : Shape := ⟨2, ![256, 1024]⟩
abbrev S256x2048 : Shape := ⟨2, ![256, 2048]⟩
abbrev S1x256x2048 : Shape := ⟨3, ![1, 256, 2048]⟩
abbrev S1x1x1 : Shape := ⟨3, ![1, 1, 1]⟩
abbrev S1x8x128 : Shape := ⟨3, ![1, 8, 128]⟩

abbrev nBuf : Space → Nat
  | .hbm => 3
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S4096x8192, .f32⟩
  | .hbm, ⟨2, _⟩ => ⟨S256x8192, .f32⟩
  | .local _ .vmem, ⟨0, _⟩ => ⟨S4096x256, .f32⟩
  | .local _ .vmem, ⟨1, _⟩ => ⟨S256x8192, .f32⟩
  | .local _ .vmem, ⟨2, _⟩ => ⟨S16x256x256, .bf16⟩
  | .local _ .vmem, ⟨3, _⟩ => ⟨S256x4096, .bf16⟩
  | .local _ .vmem, ⟨4, _⟩ => ⟨S2x1024x2048, .f32⟩
  | .local _ .vmem, ⟨5, _⟩ => ⟨S256x8192, .f32⟩
  | .local _ .vmem, ⟨6, _⟩ => ⟨S8x128, .f32⟩
  | .local _ .vmem, ⟨7, _⟩ => ⟨S16x8x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_61 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v65 : BitVec 32 := Scalar.addi v2 c1_i32_61
  let c16_i32_62 : BitVec 32 := 16#32
  let v66 : BitVec 32 := Scalar.remsi v65 c16_i32_62
  let c256_i32_63 : BitVec 32 := 256#32
  let v67 : BitVec 32 := Scalar.muli v66 c256_i32_63
  let v68 : Index := Scalar.indexCast v67
  let c0 : Index := 0#32
  ![v68.toNat, 0]
def k0_off2 (d0 : Dev nD) : Fin 2 → Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v64 : BitVec 32 := Scalar.muli v2 c256_i32
  ![0, v64.toNat]
def k0_dev16 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_61 : BitVec 32 := 1#32
  let v65 : BitVec 32 := Scalar.addi v2 c1_i32_61
  let c16_i32_62 : BitVec 32 := 16#32
  let v66 : BitVec 32 := Scalar.remsi v65 c16_i32_62
  let c1_i32_69 : BitVec 32 := 1#32
  let v75 : BitVec 32 := Scalar.muli v66 c1_i32_69
  let v76 : BitVec 32 := Scalar.addi c0_i32_70 v75
  v76.toNat
def k0_dev17 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_74 : BitVec 32 := 2#32
  let v84 : BitVec 32 := Scalar.addi v2 c2_i32_74
  let c16_i32_75 : BitVec 32 := 16#32
  let v85 : BitVec 32 := Scalar.remsi v84 c16_i32_75
  let c1_i32_83 : BitVec 32 := 1#32
  let v94 : BitVec 32 := Scalar.muli v85 c1_i32_83
  let v95 : BitVec 32 := Scalar.addi c0_i32_84 v94
  v95.toNat
def k0_dev18 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_88 : BitVec 32 := 3#32
  let v103 : BitVec 32 := Scalar.addi v2 c3_i32_88
  let c16_i32_89 : BitVec 32 := 16#32
  let v104 : BitVec 32 := Scalar.remsi v103 c16_i32_89
  let c1_i32_97 : BitVec 32 := 1#32
  let v113 : BitVec 32 := Scalar.muli v104 c1_i32_97
  let v114 : BitVec 32 := Scalar.addi c0_i32_98 v113
  v114.toNat
def k0_dev19 (d0 : Dev nD) : Nat :=
  let c0_i32_112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_102 : BitVec 32 := 4#32
  let v122 : BitVec 32 := Scalar.addi v2 c4_i32_102
  let c16_i32_103 : BitVec 32 := 16#32
  let v123 : BitVec 32 := Scalar.remsi v122 c16_i32_103
  let c1_i32_111 : BitVec 32 := 1#32
  let v132 : BitVec 32 := Scalar.muli v123 c1_i32_111
  let v133 : BitVec 32 := Scalar.addi c0_i32_112 v132
  v133.toNat
def k0_dev20 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_116 : BitVec 32 := 5#32
  let v141 : BitVec 32 := Scalar.addi v2 c5_i32_116
  let c16_i32_117 : BitVec 32 := 16#32
  let v142 : BitVec 32 := Scalar.remsi v141 c16_i32_117
  let c1_i32_125 : BitVec 32 := 1#32
  let v151 : BitVec 32 := Scalar.muli v142 c1_i32_125
  let v152 : BitVec 32 := Scalar.addi c0_i32_126 v151
  v152.toNat
def k0_dev21 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_130 : BitVec 32 := 6#32
  let v160 : BitVec 32 := Scalar.addi v2 c6_i32_130
  let c16_i32_131 : BitVec 32 := 16#32
  let v161 : BitVec 32 := Scalar.remsi v160 c16_i32_131
  let c1_i32_139 : BitVec 32 := 1#32
  let v170 : BitVec 32 := Scalar.muli v161 c1_i32_139
  let v171 : BitVec 32 := Scalar.addi c0_i32_140 v170
  v171.toNat
def k0_dev22 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_144 : BitVec 32 := 7#32
  let v179 : BitVec 32 := Scalar.addi v2 c7_i32_144
  let c16_i32_145 : BitVec 32 := 16#32
  let v180 : BitVec 32 := Scalar.remsi v179 c16_i32_145
  let c1_i32_153 : BitVec 32 := 1#32
  let v189 : BitVec 32 := Scalar.muli v180 c1_i32_153
  let v190 : BitVec 32 := Scalar.addi c0_i32_154 v189
  v190.toNat
def k0_dev23 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_158 : BitVec 32 := 8#32
  let v198 : BitVec 32 := Scalar.addi v2 c8_i32_158
  let c16_i32_159 : BitVec 32 := 16#32
  let v199 : BitVec 32 := Scalar.remsi v198 c16_i32_159
  let c1_i32_167 : BitVec 32 := 1#32
  let v208 : BitVec 32 := Scalar.muli v199 c1_i32_167
  let v209 : BitVec 32 := Scalar.addi c0_i32_168 v208
  v209.toNat
def k0_dev24 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_172 : BitVec 32 := 9#32
  let v217 : BitVec 32 := Scalar.addi v2 c9_i32_172
  let c16_i32_173 : BitVec 32 := 16#32
  let v218 : BitVec 32 := Scalar.remsi v217 c16_i32_173
  let c1_i32_181 : BitVec 32 := 1#32
  let v227 : BitVec 32 := Scalar.muli v218 c1_i32_181
  let v228 : BitVec 32 := Scalar.addi c0_i32_182 v227
  v228.toNat
def k0_dev25 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_186 : BitVec 32 := 10#32
  let v236 : BitVec 32 := Scalar.addi v2 c10_i32_186
  let c16_i32_187 : BitVec 32 := 16#32
  let v237 : BitVec 32 := Scalar.remsi v236 c16_i32_187
  let c1_i32_195 : BitVec 32 := 1#32
  let v246 : BitVec 32 := Scalar.muli v237 c1_i32_195
  let v247 : BitVec 32 := Scalar.addi c0_i32_196 v246
  v247.toNat
def k0_dev26 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_200 : BitVec 32 := 11#32
  let v255 : BitVec 32 := Scalar.addi v2 c11_i32_200
  let c16_i32_201 : BitVec 32 := 16#32
  let v256 : BitVec 32 := Scalar.remsi v255 c16_i32_201
  let c1_i32_209 : BitVec 32 := 1#32
  let v265 : BitVec 32 := Scalar.muli v256 c1_i32_209
  let v266 : BitVec 32 := Scalar.addi c0_i32_210 v265
  v266.toNat
def k0_dev27 (d0 : Dev nD) : Nat :=
  let c0_i32_224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_214 : BitVec 32 := 12#32
  let v274 : BitVec 32 := Scalar.addi v2 c12_i32_214
  let c16_i32_215 : BitVec 32 := 16#32
  let v275 : BitVec 32 := Scalar.remsi v274 c16_i32_215
  let c1_i32_223 : BitVec 32 := 1#32
  let v284 : BitVec 32 := Scalar.muli v275 c1_i32_223
  let v285 : BitVec 32 := Scalar.addi c0_i32_224 v284
  v285.toNat
def k0_dev28 (d0 : Dev nD) : Nat :=
  let c0_i32_238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_228 : BitVec 32 := 13#32
  let v293 : BitVec 32 := Scalar.addi v2 c13_i32_228
  let c16_i32_229 : BitVec 32 := 16#32
  let v294 : BitVec 32 := Scalar.remsi v293 c16_i32_229
  let c1_i32_237 : BitVec 32 := 1#32
  let v303 : BitVec 32 := Scalar.muli v294 c1_i32_237
  let v304 : BitVec 32 := Scalar.addi c0_i32_238 v303
  v304.toNat
def k0_dev29 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_242 : BitVec 32 := 14#32
  let v312 : BitVec 32 := Scalar.addi v2 c14_i32_242
  let c16_i32_243 : BitVec 32 := 16#32
  let v313 : BitVec 32 := Scalar.remsi v312 c16_i32_243
  let c1_i32_251 : BitVec 32 := 1#32
  let v322 : BitVec 32 := Scalar.muli v313 c1_i32_251
  let v323 : BitVec 32 := Scalar.addi c0_i32_252 v322
  v323.toNat
def k0_dev30 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_256 : BitVec 32 := 15#32
  let v331 : BitVec 32 := Scalar.addi v2 c15_i32_256
  let c16_i32_257 : BitVec 32 := 16#32
  let v332 : BitVec 32 := Scalar.remsi v331 c16_i32_257
  let c1_i32_265 : BitVec 32 := 1#32
  let v341 : BitVec 32 := Scalar.muli v332 c1_i32_265
  let v342 : BitVec 32 := Scalar.addi c0_i32_266 v341
  v342.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_270 : BitVec 32 := 256#32
  let v350 : BitVec 32 := Scalar.muli v2 c256_i32_270
  let v351 : Index := Scalar.indexCast v350
  let c0_271 : Index := 0#32
  ![v351.toNat, 0]
def k0_off4 (d0 : Dev nD) : Fin 2 → Nat :=
  let c0_272 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v64 : BitVec 32 := Scalar.muli v2 c256_i32
  let v355 : Index := Scalar.indexCast v64
  ![0, v355.toNat]
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c0_i32_300 : BitVec 32 := 0#32
  let v404 : BitVec 32 := Scalar.addi v375 c0_i32_300
  let c4_i32_301 : BitVec 32 := 4#32
  let v405 : BitVec 32 := Scalar.remsi v404 c4_i32_301
  let c4_i32_302 : BitVec 32 := 4#32
  let v406 : BitVec 32 := Scalar.muli v405 c4_i32_302
  let c0_i32_303 : BitVec 32 := 0#32
  let v407 : BitVec 32 := Scalar.addi v406 c0_i32_303
  let v408 : BitVec 1 := Scalar.cmpi .ne v407 v2
  let v409 : BitVec 32 := Scalar.extui v408
  let c0_i32_304 : BitVec 32 := 0#32
  let v410 : BitVec 1 := Scalar.cmpi .ne v409 c0_i32_304
  v410

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c0_i32_300 : BitVec 32 := 0#32
  let v404 : BitVec 32 := Scalar.addi v375 c0_i32_300
  let c4_i32_301 : BitVec 32 := 4#32
  let v405 : BitVec 32 := Scalar.remsi v404 c4_i32_301
  let c4_i32_302 : BitVec 32 := 4#32
  let v406 : BitVec 32 := Scalar.muli v405 c4_i32_302
  let c0_i32_303 : BitVec 32 := 0#32
  let v407 : BitVec 32 := Scalar.addi v406 c0_i32_303
  let v1513 : BitVec 32 := Scalar.subi v2 v407
  let c16_i32_1295 : BitVec 32 := 16#32
  let v1514 : BitVec 32 := Scalar.addi v1513 c16_i32_1295
  let c16_i32_1296 : BitVec 32 := 16#32
  let v1515 : BitVec 32 := Scalar.remsi v1514 c16_i32_1296
  ![v1515.toNat]
def k0_off6 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c0_i32_300 : BitVec 32 := 0#32
  let v404 : BitVec 32 := Scalar.addi v375 c0_i32_300
  let c4_i32_301 : BitVec 32 := 4#32
  let v405 : BitVec 32 := Scalar.remsi v404 c4_i32_301
  let c4_i32_302 : BitVec 32 := 4#32
  let v406 : BitVec 32 := Scalar.muli v405 c4_i32_302
  let c0_i32_303 : BitVec 32 := 0#32
  let v407 : BitVec 32 := Scalar.addi v406 c0_i32_303
  let c256_i32_1297 : BitVec 32 := 256#32
  let v1516 : BitVec 32 := Scalar.muli v407 c256_i32_1297
  ![0, v1516.toNat]
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c0_i32_300 : BitVec 32 := 0#32
  let v404 : BitVec 32 := Scalar.addi v375 c0_i32_300
  let c4_i32_301 : BitVec 32 := 4#32
  let v405 : BitVec 32 := Scalar.remsi v404 c4_i32_301
  let c4_i32_305 : BitVec 32 := 4#32
  let v411 : BitVec 32 := Scalar.muli v405 c4_i32_305
  let c1_i32_306 : BitVec 32 := 1#32
  let v412 : BitVec 32 := Scalar.addi v411 c1_i32_306
  let v413 : BitVec 1 := Scalar.cmpi .ne v412 v2
  let v414 : BitVec 32 := Scalar.extui v413
  let c0_i32_307 : BitVec 32 := 0#32
  let v415 : BitVec 1 := Scalar.cmpi .ne v414 c0_i32_307
  v415

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c0_i32_300 : BitVec 32 := 0#32
  let v404 : BitVec 32 := Scalar.addi v375 c0_i32_300
  let c4_i32_301 : BitVec 32 := 4#32
  let v405 : BitVec 32 := Scalar.remsi v404 c4_i32_301
  let c4_i32_305 : BitVec 32 := 4#32
  let v411 : BitVec 32 := Scalar.muli v405 c4_i32_305
  let c1_i32_306 : BitVec 32 := 1#32
  let v412 : BitVec 32 := Scalar.addi v411 c1_i32_306
  let v1513 : BitVec 32 := Scalar.subi v2 v412
  let c16_i32_1295 : BitVec 32 := 16#32
  let v1514 : BitVec 32 := Scalar.addi v1513 c16_i32_1295
  let c16_i32_1296 : BitVec 32 := 16#32
  let v1515 : BitVec 32 := Scalar.remsi v1514 c16_i32_1296
  ![v1515.toNat]
def k0_off8 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c0_i32_300 : BitVec 32 := 0#32
  let v404 : BitVec 32 := Scalar.addi v375 c0_i32_300
  let c4_i32_301 : BitVec 32 := 4#32
  let v405 : BitVec 32 := Scalar.remsi v404 c4_i32_301
  let c4_i32_305 : BitVec 32 := 4#32
  let v411 : BitVec 32 := Scalar.muli v405 c4_i32_305
  let c1_i32_306 : BitVec 32 := 1#32
  let v412 : BitVec 32 := Scalar.addi v411 c1_i32_306
  let c256_i32_1297 : BitVec 32 := 256#32
  let v1516 : BitVec 32 := Scalar.muli v412 c256_i32_1297
  ![0, v1516.toNat]
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c0_i32_300 : BitVec 32 := 0#32
  let v404 : BitVec 32 := Scalar.addi v375 c0_i32_300
  let c4_i32_301 : BitVec 32 := 4#32
  let v405 : BitVec 32 := Scalar.remsi v404 c4_i32_301
  let c4_i32_308 : BitVec 32 := 4#32
  let v416 : BitVec 32 := Scalar.muli v405 c4_i32_308
  let c2_i32_309 : BitVec 32 := 2#32
  let v417 : BitVec 32 := Scalar.addi v416 c2_i32_309
  let v418 : BitVec 1 := Scalar.cmpi .ne v417 v2
  let v419 : BitVec 32 := Scalar.extui v418
  let c0_i32_310 : BitVec 32 := 0#32
  let v420 : BitVec 1 := Scalar.cmpi .ne v419 c0_i32_310
  v420

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c0_i32_300 : BitVec 32 := 0#32
  let v404 : BitVec 32 := Scalar.addi v375 c0_i32_300
  let c4_i32_301 : BitVec 32 := 4#32
  let v405 : BitVec 32 := Scalar.remsi v404 c4_i32_301
  let c4_i32_308 : BitVec 32 := 4#32
  let v416 : BitVec 32 := Scalar.muli v405 c4_i32_308
  let c2_i32_309 : BitVec 32 := 2#32
  let v417 : BitVec 32 := Scalar.addi v416 c2_i32_309
  let v1513 : BitVec 32 := Scalar.subi v2 v417
  let c16_i32_1295 : BitVec 32 := 16#32
  let v1514 : BitVec 32 := Scalar.addi v1513 c16_i32_1295
  let c16_i32_1296 : BitVec 32 := 16#32
  let v1515 : BitVec 32 := Scalar.remsi v1514 c16_i32_1296
  ![v1515.toNat]
def k0_off10 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c0_i32_300 : BitVec 32 := 0#32
  let v404 : BitVec 32 := Scalar.addi v375 c0_i32_300
  let c4_i32_301 : BitVec 32 := 4#32
  let v405 : BitVec 32 := Scalar.remsi v404 c4_i32_301
  let c4_i32_308 : BitVec 32 := 4#32
  let v416 : BitVec 32 := Scalar.muli v405 c4_i32_308
  let c2_i32_309 : BitVec 32 := 2#32
  let v417 : BitVec 32 := Scalar.addi v416 c2_i32_309
  let c256_i32_1297 : BitVec 32 := 256#32
  let v1516 : BitVec 32 := Scalar.muli v417 c256_i32_1297
  ![0, v1516.toNat]
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c0_i32_300 : BitVec 32 := 0#32
  let v404 : BitVec 32 := Scalar.addi v375 c0_i32_300
  let c4_i32_301 : BitVec 32 := 4#32
  let v405 : BitVec 32 := Scalar.remsi v404 c4_i32_301
  let c4_i32_311 : BitVec 32 := 4#32
  let v421 : BitVec 32 := Scalar.muli v405 c4_i32_311
  let c3_i32_312 : BitVec 32 := 3#32
  let v422 : BitVec 32 := Scalar.addi v421 c3_i32_312
  let v423 : BitVec 1 := Scalar.cmpi .ne v422 v2
  let v424 : BitVec 32 := Scalar.extui v423
  let c0_i32_313 : BitVec 32 := 0#32
  let v425 : BitVec 1 := Scalar.cmpi .ne v424 c0_i32_313
  v425

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c0_i32_300 : BitVec 32 := 0#32
  let v404 : BitVec 32 := Scalar.addi v375 c0_i32_300
  let c4_i32_301 : BitVec 32 := 4#32
  let v405 : BitVec 32 := Scalar.remsi v404 c4_i32_301
  let c4_i32_311 : BitVec 32 := 4#32
  let v421 : BitVec 32 := Scalar.muli v405 c4_i32_311
  let c3_i32_312 : BitVec 32 := 3#32
  let v422 : BitVec 32 := Scalar.addi v421 c3_i32_312
  let v1513 : BitVec 32 := Scalar.subi v2 v422
  let c16_i32_1295 : BitVec 32 := 16#32
  let v1514 : BitVec 32 := Scalar.addi v1513 c16_i32_1295
  let c16_i32_1296 : BitVec 32 := 16#32
  let v1515 : BitVec 32 := Scalar.remsi v1514 c16_i32_1296
  ![v1515.toNat]
def k0_off12 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c0_i32_300 : BitVec 32 := 0#32
  let v404 : BitVec 32 := Scalar.addi v375 c0_i32_300
  let c4_i32_301 : BitVec 32 := 4#32
  let v405 : BitVec 32 := Scalar.remsi v404 c4_i32_301
  let c4_i32_311 : BitVec 32 := 4#32
  let v421 : BitVec 32 := Scalar.muli v405 c4_i32_311
  let c3_i32_312 : BitVec 32 := 3#32
  let v422 : BitVec 32 := Scalar.addi v421 c3_i32_312
  let c256_i32_1297 : BitVec 32 := 256#32
  let v1516 : BitVec 32 := Scalar.muli v422 c256_i32_1297
  ![0, v1516.toNat]
def k0_off13 (d0 : Dev nD) (c0_i32_320 : BitVec 32) : Fin 2 → Nat :=
  let c0_322 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let v431 : BitVec 32 := Scalar.addi v375 c0_i32_320
  let c4_i32_321 : BitVec 32 := 4#32
  let v432 : BitVec 32 := Scalar.remsi v431 c4_i32_321
  let c1024_i32 : BitVec 32 := 1024#32
  let v433 : BitVec 32 := Scalar.muli v432 c1024_i32
  let v434 : Index := Scalar.indexCast v433
  ![0, v434.toNat]
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c1_i32_410 : BitVec 32 := 1#32
  let v546 : BitVec 32 := Scalar.addi v375 c1_i32_410
  let c4_i32_411 : BitVec 32 := 4#32
  let v547 : BitVec 32 := Scalar.remsi v546 c4_i32_411
  let c4_i32_412 : BitVec 32 := 4#32
  let v548 : BitVec 32 := Scalar.muli v547 c4_i32_412
  let c0_i32_413 : BitVec 32 := 0#32
  let v549 : BitVec 32 := Scalar.addi v548 c0_i32_413
  let v550 : BitVec 1 := Scalar.cmpi .ne v549 v2
  let v551 : BitVec 32 := Scalar.extui v550
  let c0_i32_414 : BitVec 32 := 0#32
  let v552 : BitVec 1 := Scalar.cmpi .ne v551 c0_i32_414
  v552

def k0_off14 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c1_i32_410 : BitVec 32 := 1#32
  let v546 : BitVec 32 := Scalar.addi v375 c1_i32_410
  let c4_i32_411 : BitVec 32 := 4#32
  let v547 : BitVec 32 := Scalar.remsi v546 c4_i32_411
  let c4_i32_412 : BitVec 32 := 4#32
  let v548 : BitVec 32 := Scalar.muli v547 c4_i32_412
  let c0_i32_413 : BitVec 32 := 0#32
  let v549 : BitVec 32 := Scalar.addi v548 c0_i32_413
  let v1513 : BitVec 32 := Scalar.subi v2 v549
  let c16_i32_1295 : BitVec 32 := 16#32
  let v1514 : BitVec 32 := Scalar.addi v1513 c16_i32_1295
  let c16_i32_1296 : BitVec 32 := 16#32
  let v1515 : BitVec 32 := Scalar.remsi v1514 c16_i32_1296
  ![v1515.toNat]
def k0_off15 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c1_i32_410 : BitVec 32 := 1#32
  let v546 : BitVec 32 := Scalar.addi v375 c1_i32_410
  let c4_i32_411 : BitVec 32 := 4#32
  let v547 : BitVec 32 := Scalar.remsi v546 c4_i32_411
  let c4_i32_412 : BitVec 32 := 4#32
  let v548 : BitVec 32 := Scalar.muli v547 c4_i32_412
  let c0_i32_413 : BitVec 32 := 0#32
  let v549 : BitVec 32 := Scalar.addi v548 c0_i32_413
  let c256_i32_1297 : BitVec 32 := 256#32
  let v1516 : BitVec 32 := Scalar.muli v549 c256_i32_1297
  ![0, v1516.toNat]
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c1_i32_410 : BitVec 32 := 1#32
  let v546 : BitVec 32 := Scalar.addi v375 c1_i32_410
  let c4_i32_411 : BitVec 32 := 4#32
  let v547 : BitVec 32 := Scalar.remsi v546 c4_i32_411
  let c4_i32_415 : BitVec 32 := 4#32
  let v553 : BitVec 32 := Scalar.muli v547 c4_i32_415
  let c1_i32_416 : BitVec 32 := 1#32
  let v554 : BitVec 32 := Scalar.addi v553 c1_i32_416
  let v555 : BitVec 1 := Scalar.cmpi .ne v554 v2
  let v556 : BitVec 32 := Scalar.extui v555
  let c0_i32_417 : BitVec 32 := 0#32
  let v557 : BitVec 1 := Scalar.cmpi .ne v556 c0_i32_417
  v557

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c1_i32_410 : BitVec 32 := 1#32
  let v546 : BitVec 32 := Scalar.addi v375 c1_i32_410
  let c4_i32_411 : BitVec 32 := 4#32
  let v547 : BitVec 32 := Scalar.remsi v546 c4_i32_411
  let c4_i32_415 : BitVec 32 := 4#32
  let v553 : BitVec 32 := Scalar.muli v547 c4_i32_415
  let c1_i32_416 : BitVec 32 := 1#32
  let v554 : BitVec 32 := Scalar.addi v553 c1_i32_416
  let v1513 : BitVec 32 := Scalar.subi v2 v554
  let c16_i32_1295 : BitVec 32 := 16#32
  let v1514 : BitVec 32 := Scalar.addi v1513 c16_i32_1295
  let c16_i32_1296 : BitVec 32 := 16#32
  let v1515 : BitVec 32 := Scalar.remsi v1514 c16_i32_1296
  ![v1515.toNat]
def k0_off17 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c1_i32_410 : BitVec 32 := 1#32
  let v546 : BitVec 32 := Scalar.addi v375 c1_i32_410
  let c4_i32_411 : BitVec 32 := 4#32
  let v547 : BitVec 32 := Scalar.remsi v546 c4_i32_411
  let c4_i32_415 : BitVec 32 := 4#32
  let v553 : BitVec 32 := Scalar.muli v547 c4_i32_415
  let c1_i32_416 : BitVec 32 := 1#32
  let v554 : BitVec 32 := Scalar.addi v553 c1_i32_416
  let c256_i32_1297 : BitVec 32 := 256#32
  let v1516 : BitVec 32 := Scalar.muli v554 c256_i32_1297
  ![0, v1516.toNat]
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c1_i32_410 : BitVec 32 := 1#32
  let v546 : BitVec 32 := Scalar.addi v375 c1_i32_410
  let c4_i32_411 : BitVec 32 := 4#32
  let v547 : BitVec 32 := Scalar.remsi v546 c4_i32_411
  let c4_i32_418 : BitVec 32 := 4#32
  let v558 : BitVec 32 := Scalar.muli v547 c4_i32_418
  let c2_i32_419 : BitVec 32 := 2#32
  let v559 : BitVec 32 := Scalar.addi v558 c2_i32_419
  let v560 : BitVec 1 := Scalar.cmpi .ne v559 v2
  let v561 : BitVec 32 := Scalar.extui v560
  let c0_i32_420 : BitVec 32 := 0#32
  let v562 : BitVec 1 := Scalar.cmpi .ne v561 c0_i32_420
  v562

def k0_off18 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c1_i32_410 : BitVec 32 := 1#32
  let v546 : BitVec 32 := Scalar.addi v375 c1_i32_410
  let c4_i32_411 : BitVec 32 := 4#32
  let v547 : BitVec 32 := Scalar.remsi v546 c4_i32_411
  let c4_i32_418 : BitVec 32 := 4#32
  let v558 : BitVec 32 := Scalar.muli v547 c4_i32_418
  let c2_i32_419 : BitVec 32 := 2#32
  let v559 : BitVec 32 := Scalar.addi v558 c2_i32_419
  let v1513 : BitVec 32 := Scalar.subi v2 v559
  let c16_i32_1295 : BitVec 32 := 16#32
  let v1514 : BitVec 32 := Scalar.addi v1513 c16_i32_1295
  let c16_i32_1296 : BitVec 32 := 16#32
  let v1515 : BitVec 32 := Scalar.remsi v1514 c16_i32_1296
  ![v1515.toNat]
def k0_off19 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c1_i32_410 : BitVec 32 := 1#32
  let v546 : BitVec 32 := Scalar.addi v375 c1_i32_410
  let c4_i32_411 : BitVec 32 := 4#32
  let v547 : BitVec 32 := Scalar.remsi v546 c4_i32_411
  let c4_i32_418 : BitVec 32 := 4#32
  let v558 : BitVec 32 := Scalar.muli v547 c4_i32_418
  let c2_i32_419 : BitVec 32 := 2#32
  let v559 : BitVec 32 := Scalar.addi v558 c2_i32_419
  let c256_i32_1297 : BitVec 32 := 256#32
  let v1516 : BitVec 32 := Scalar.muli v559 c256_i32_1297
  ![0, v1516.toNat]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c1_i32_410 : BitVec 32 := 1#32
  let v546 : BitVec 32 := Scalar.addi v375 c1_i32_410
  let c4_i32_411 : BitVec 32 := 4#32
  let v547 : BitVec 32 := Scalar.remsi v546 c4_i32_411
  let c4_i32_421 : BitVec 32 := 4#32
  let v563 : BitVec 32 := Scalar.muli v547 c4_i32_421
  let c3_i32_422 : BitVec 32 := 3#32
  let v564 : BitVec 32 := Scalar.addi v563 c3_i32_422
  let v565 : BitVec 1 := Scalar.cmpi .ne v564 v2
  let v566 : BitVec 32 := Scalar.extui v565
  let c0_i32_423 : BitVec 32 := 0#32
  let v567 : BitVec 1 := Scalar.cmpi .ne v566 c0_i32_423
  v567

def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c1_i32_410 : BitVec 32 := 1#32
  let v546 : BitVec 32 := Scalar.addi v375 c1_i32_410
  let c4_i32_411 : BitVec 32 := 4#32
  let v547 : BitVec 32 := Scalar.remsi v546 c4_i32_411
  let c4_i32_421 : BitVec 32 := 4#32
  let v563 : BitVec 32 := Scalar.muli v547 c4_i32_421
  let c3_i32_422 : BitVec 32 := 3#32
  let v564 : BitVec 32 := Scalar.addi v563 c3_i32_422
  let v1513 : BitVec 32 := Scalar.subi v2 v564
  let c16_i32_1295 : BitVec 32 := 16#32
  let v1514 : BitVec 32 := Scalar.addi v1513 c16_i32_1295
  let c16_i32_1296 : BitVec 32 := 16#32
  let v1515 : BitVec 32 := Scalar.remsi v1514 c16_i32_1296
  ![v1515.toNat]
def k0_off21 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c1_i32_410 : BitVec 32 := 1#32
  let v546 : BitVec 32 := Scalar.addi v375 c1_i32_410
  let c4_i32_411 : BitVec 32 := 4#32
  let v547 : BitVec 32 := Scalar.remsi v546 c4_i32_411
  let c4_i32_421 : BitVec 32 := 4#32
  let v563 : BitVec 32 := Scalar.muli v547 c4_i32_421
  let c3_i32_422 : BitVec 32 := 3#32
  let v564 : BitVec 32 := Scalar.addi v563 c3_i32_422
  let c256_i32_1297 : BitVec 32 := 256#32
  let v1516 : BitVec 32 := Scalar.muli v564 c256_i32_1297
  ![0, v1516.toNat]
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c2_i32_536 : BitVec 32 := 2#32
  let v696 : BitVec 32 := Scalar.addi v375 c2_i32_536
  let c4_i32_537 : BitVec 32 := 4#32
  let v697 : BitVec 32 := Scalar.remsi v696 c4_i32_537
  let c4_i32_538 : BitVec 32 := 4#32
  let v698 : BitVec 32 := Scalar.muli v697 c4_i32_538
  let c0_i32_539 : BitVec 32 := 0#32
  let v699 : BitVec 32 := Scalar.addi v698 c0_i32_539
  let v700 : BitVec 1 := Scalar.cmpi .ne v699 v2
  let v701 : BitVec 32 := Scalar.extui v700
  let c0_i32_540 : BitVec 32 := 0#32
  let v702 : BitVec 1 := Scalar.cmpi .ne v701 c0_i32_540
  v702

def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c2_i32_536 : BitVec 32 := 2#32
  let v696 : BitVec 32 := Scalar.addi v375 c2_i32_536
  let c4_i32_537 : BitVec 32 := 4#32
  let v697 : BitVec 32 := Scalar.remsi v696 c4_i32_537
  let c4_i32_538 : BitVec 32 := 4#32
  let v698 : BitVec 32 := Scalar.muli v697 c4_i32_538
  let c0_i32_539 : BitVec 32 := 0#32
  let v699 : BitVec 32 := Scalar.addi v698 c0_i32_539
  let v1513 : BitVec 32 := Scalar.subi v2 v699
  let c16_i32_1295 : BitVec 32 := 16#32
  let v1514 : BitVec 32 := Scalar.addi v1513 c16_i32_1295
  let c16_i32_1296 : BitVec 32 := 16#32
  let v1515 : BitVec 32 := Scalar.remsi v1514 c16_i32_1296
  ![v1515.toNat]
def k0_off23 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c2_i32_536 : BitVec 32 := 2#32
  let v696 : BitVec 32 := Scalar.addi v375 c2_i32_536
  let c4_i32_537 : BitVec 32 := 4#32
  let v697 : BitVec 32 := Scalar.remsi v696 c4_i32_537
  let c4_i32_538 : BitVec 32 := 4#32
  let v698 : BitVec 32 := Scalar.muli v697 c4_i32_538
  let c0_i32_539 : BitVec 32 := 0#32
  let v699 : BitVec 32 := Scalar.addi v698 c0_i32_539
  let c256_i32_1297 : BitVec 32 := 256#32
  let v1516 : BitVec 32 := Scalar.muli v699 c256_i32_1297
  ![0, v1516.toNat]
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c2_i32_536 : BitVec 32 := 2#32
  let v696 : BitVec 32 := Scalar.addi v375 c2_i32_536
  let c4_i32_537 : BitVec 32 := 4#32
  let v697 : BitVec 32 := Scalar.remsi v696 c4_i32_537
  let c4_i32_541 : BitVec 32 := 4#32
  let v703 : BitVec 32 := Scalar.muli v697 c4_i32_541
  let c1_i32_542 : BitVec 32 := 1#32
  let v704 : BitVec 32 := Scalar.addi v703 c1_i32_542
  let v705 : BitVec 1 := Scalar.cmpi .ne v704 v2
  let v706 : BitVec 32 := Scalar.extui v705
  let c0_i32_543 : BitVec 32 := 0#32
  let v707 : BitVec 1 := Scalar.cmpi .ne v706 c0_i32_543
  v707

def k0_off24 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c2_i32_536 : BitVec 32 := 2#32
  let v696 : BitVec 32 := Scalar.addi v375 c2_i32_536
  let c4_i32_537 : BitVec 32 := 4#32
  let v697 : BitVec 32 := Scalar.remsi v696 c4_i32_537
  let c4_i32_541 : BitVec 32 := 4#32
  let v703 : BitVec 32 := Scalar.muli v697 c4_i32_541
  let c1_i32_542 : BitVec 32 := 1#32
  let v704 : BitVec 32 := Scalar.addi v703 c1_i32_542
  let v1513 : BitVec 32 := Scalar.subi v2 v704
  let c16_i32_1295 : BitVec 32 := 16#32
  let v1514 : BitVec 32 := Scalar.addi v1513 c16_i32_1295
  let c16_i32_1296 : BitVec 32 := 16#32
  let v1515 : BitVec 32 := Scalar.remsi v1514 c16_i32_1296
  ![v1515.toNat]
def k0_off25 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c2_i32_536 : BitVec 32 := 2#32
  let v696 : BitVec 32 := Scalar.addi v375 c2_i32_536
  let c4_i32_537 : BitVec 32 := 4#32
  let v697 : BitVec 32 := Scalar.remsi v696 c4_i32_537
  let c4_i32_541 : BitVec 32 := 4#32
  let v703 : BitVec 32 := Scalar.muli v697 c4_i32_541
  let c1_i32_542 : BitVec 32 := 1#32
  let v704 : BitVec 32 := Scalar.addi v703 c1_i32_542
  let c256_i32_1297 : BitVec 32 := 256#32
  let v1516 : BitVec 32 := Scalar.muli v704 c256_i32_1297
  ![0, v1516.toNat]
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c2_i32_536 : BitVec 32 := 2#32
  let v696 : BitVec 32 := Scalar.addi v375 c2_i32_536
  let c4_i32_537 : BitVec 32 := 4#32
  let v697 : BitVec 32 := Scalar.remsi v696 c4_i32_537
  let c4_i32_544 : BitVec 32 := 4#32
  let v708 : BitVec 32 := Scalar.muli v697 c4_i32_544
  let c2_i32_545 : BitVec 32 := 2#32
  let v709 : BitVec 32 := Scalar.addi v708 c2_i32_545
  let v710 : BitVec 1 := Scalar.cmpi .ne v709 v2
  let v711 : BitVec 32 := Scalar.extui v710
  let c0_i32_546 : BitVec 32 := 0#32
  let v712 : BitVec 1 := Scalar.cmpi .ne v711 c0_i32_546
  v712

def k0_off26 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c2_i32_536 : BitVec 32 := 2#32
  let v696 : BitVec 32 := Scalar.addi v375 c2_i32_536
  let c4_i32_537 : BitVec 32 := 4#32
  let v697 : BitVec 32 := Scalar.remsi v696 c4_i32_537
  let c4_i32_544 : BitVec 32 := 4#32
  let v708 : BitVec 32 := Scalar.muli v697 c4_i32_544
  let c2_i32_545 : BitVec 32 := 2#32
  let v709 : BitVec 32 := Scalar.addi v708 c2_i32_545
  let v1513 : BitVec 32 := Scalar.subi v2 v709
  let c16_i32_1295 : BitVec 32 := 16#32
  let v1514 : BitVec 32 := Scalar.addi v1513 c16_i32_1295
  let c16_i32_1296 : BitVec 32 := 16#32
  let v1515 : BitVec 32 := Scalar.remsi v1514 c16_i32_1296
  ![v1515.toNat]
def k0_off27 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c2_i32_536 : BitVec 32 := 2#32
  let v696 : BitVec 32 := Scalar.addi v375 c2_i32_536
  let c4_i32_537 : BitVec 32 := 4#32
  let v697 : BitVec 32 := Scalar.remsi v696 c4_i32_537
  let c4_i32_544 : BitVec 32 := 4#32
  let v708 : BitVec 32 := Scalar.muli v697 c4_i32_544
  let c2_i32_545 : BitVec 32 := 2#32
  let v709 : BitVec 32 := Scalar.addi v708 c2_i32_545
  let c256_i32_1297 : BitVec 32 := 256#32
  let v1516 : BitVec 32 := Scalar.muli v709 c256_i32_1297
  ![0, v1516.toNat]
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c2_i32_536 : BitVec 32 := 2#32
  let v696 : BitVec 32 := Scalar.addi v375 c2_i32_536
  let c4_i32_537 : BitVec 32 := 4#32
  let v697 : BitVec 32 := Scalar.remsi v696 c4_i32_537
  let c4_i32_547 : BitVec 32 := 4#32
  let v713 : BitVec 32 := Scalar.muli v697 c4_i32_547
  let c3_i32_548 : BitVec 32 := 3#32
  let v714 : BitVec 32 := Scalar.addi v713 c3_i32_548
  let v715 : BitVec 1 := Scalar.cmpi .ne v714 v2
  let v716 : BitVec 32 := Scalar.extui v715
  let c0_i32_549 : BitVec 32 := 0#32
  let v717 : BitVec 1 := Scalar.cmpi .ne v716 c0_i32_549
  v717

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c2_i32_536 : BitVec 32 := 2#32
  let v696 : BitVec 32 := Scalar.addi v375 c2_i32_536
  let c4_i32_537 : BitVec 32 := 4#32
  let v697 : BitVec 32 := Scalar.remsi v696 c4_i32_537
  let c4_i32_547 : BitVec 32 := 4#32
  let v713 : BitVec 32 := Scalar.muli v697 c4_i32_547
  let c3_i32_548 : BitVec 32 := 3#32
  let v714 : BitVec 32 := Scalar.addi v713 c3_i32_548
  let v1513 : BitVec 32 := Scalar.subi v2 v714
  let c16_i32_1295 : BitVec 32 := 16#32
  let v1514 : BitVec 32 := Scalar.addi v1513 c16_i32_1295
  let c16_i32_1296 : BitVec 32 := 16#32
  let v1515 : BitVec 32 := Scalar.remsi v1514 c16_i32_1296
  ![v1515.toNat]
def k0_off29 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c2_i32_536 : BitVec 32 := 2#32
  let v696 : BitVec 32 := Scalar.addi v375 c2_i32_536
  let c4_i32_537 : BitVec 32 := 4#32
  let v697 : BitVec 32 := Scalar.remsi v696 c4_i32_537
  let c4_i32_547 : BitVec 32 := 4#32
  let v713 : BitVec 32 := Scalar.muli v697 c4_i32_547
  let c3_i32_548 : BitVec 32 := 3#32
  let v714 : BitVec 32 := Scalar.addi v713 c3_i32_548
  let c256_i32_1297 : BitVec 32 := 256#32
  let v1516 : BitVec 32 := Scalar.muli v714 c256_i32_1297
  ![0, v1516.toNat]
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c3_i32_662 : BitVec 32 := 3#32
  let v846 : BitVec 32 := Scalar.addi v375 c3_i32_662
  let c4_i32_663 : BitVec 32 := 4#32
  let v847 : BitVec 32 := Scalar.remsi v846 c4_i32_663
  let c4_i32_664 : BitVec 32 := 4#32
  let v848 : BitVec 32 := Scalar.muli v847 c4_i32_664
  let c0_i32_665 : BitVec 32 := 0#32
  let v849 : BitVec 32 := Scalar.addi v848 c0_i32_665
  let v850 : BitVec 1 := Scalar.cmpi .ne v849 v2
  let v851 : BitVec 32 := Scalar.extui v850
  let c0_i32_666 : BitVec 32 := 0#32
  let v852 : BitVec 1 := Scalar.cmpi .ne v851 c0_i32_666
  v852

def k0_off30 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c3_i32_662 : BitVec 32 := 3#32
  let v846 : BitVec 32 := Scalar.addi v375 c3_i32_662
  let c4_i32_663 : BitVec 32 := 4#32
  let v847 : BitVec 32 := Scalar.remsi v846 c4_i32_663
  let c4_i32_664 : BitVec 32 := 4#32
  let v848 : BitVec 32 := Scalar.muli v847 c4_i32_664
  let c0_i32_665 : BitVec 32 := 0#32
  let v849 : BitVec 32 := Scalar.addi v848 c0_i32_665
  let v1513 : BitVec 32 := Scalar.subi v2 v849
  let c16_i32_1295 : BitVec 32 := 16#32
  let v1514 : BitVec 32 := Scalar.addi v1513 c16_i32_1295
  let c16_i32_1296 : BitVec 32 := 16#32
  let v1515 : BitVec 32 := Scalar.remsi v1514 c16_i32_1296
  ![v1515.toNat]
def k0_off31 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c3_i32_662 : BitVec 32 := 3#32
  let v846 : BitVec 32 := Scalar.addi v375 c3_i32_662
  let c4_i32_663 : BitVec 32 := 4#32
  let v847 : BitVec 32 := Scalar.remsi v846 c4_i32_663
  let c4_i32_664 : BitVec 32 := 4#32
  let v848 : BitVec 32 := Scalar.muli v847 c4_i32_664
  let c0_i32_665 : BitVec 32 := 0#32
  let v849 : BitVec 32 := Scalar.addi v848 c0_i32_665
  let c256_i32_1297 : BitVec 32 := 256#32
  let v1516 : BitVec 32 := Scalar.muli v849 c256_i32_1297
  ![0, v1516.toNat]
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c3_i32_662 : BitVec 32 := 3#32
  let v846 : BitVec 32 := Scalar.addi v375 c3_i32_662
  let c4_i32_663 : BitVec 32 := 4#32
  let v847 : BitVec 32 := Scalar.remsi v846 c4_i32_663
  let c4_i32_667 : BitVec 32 := 4#32
  let v853 : BitVec 32 := Scalar.muli v847 c4_i32_667
  let c1_i32_668 : BitVec 32 := 1#32
  let v854 : BitVec 32 := Scalar.addi v853 c1_i32_668
  let v855 : BitVec 1 := Scalar.cmpi .ne v854 v2
  let v856 : BitVec 32 := Scalar.extui v855
  let c0_i32_669 : BitVec 32 := 0#32
  let v857 : BitVec 1 := Scalar.cmpi .ne v856 c0_i32_669
  v857

def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c3_i32_662 : BitVec 32 := 3#32
  let v846 : BitVec 32 := Scalar.addi v375 c3_i32_662
  let c4_i32_663 : BitVec 32 := 4#32
  let v847 : BitVec 32 := Scalar.remsi v846 c4_i32_663
  let c4_i32_667 : BitVec 32 := 4#32
  let v853 : BitVec 32 := Scalar.muli v847 c4_i32_667
  let c1_i32_668 : BitVec 32 := 1#32
  let v854 : BitVec 32 := Scalar.addi v853 c1_i32_668
  let v1513 : BitVec 32 := Scalar.subi v2 v854
  let c16_i32_1295 : BitVec 32 := 16#32
  let v1514 : BitVec 32 := Scalar.addi v1513 c16_i32_1295
  let c16_i32_1296 : BitVec 32 := 16#32
  let v1515 : BitVec 32 := Scalar.remsi v1514 c16_i32_1296
  ![v1515.toNat]
def k0_off33 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c3_i32_662 : BitVec 32 := 3#32
  let v846 : BitVec 32 := Scalar.addi v375 c3_i32_662
  let c4_i32_663 : BitVec 32 := 4#32
  let v847 : BitVec 32 := Scalar.remsi v846 c4_i32_663
  let c4_i32_667 : BitVec 32 := 4#32
  let v853 : BitVec 32 := Scalar.muli v847 c4_i32_667
  let c1_i32_668 : BitVec 32 := 1#32
  let v854 : BitVec 32 := Scalar.addi v853 c1_i32_668
  let c256_i32_1297 : BitVec 32 := 256#32
  let v1516 : BitVec 32 := Scalar.muli v854 c256_i32_1297
  ![0, v1516.toNat]
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c3_i32_662 : BitVec 32 := 3#32
  let v846 : BitVec 32 := Scalar.addi v375 c3_i32_662
  let c4_i32_663 : BitVec 32 := 4#32
  let v847 : BitVec 32 := Scalar.remsi v846 c4_i32_663
  let c4_i32_670 : BitVec 32 := 4#32
  let v858 : BitVec 32 := Scalar.muli v847 c4_i32_670
  let c2_i32_671 : BitVec 32 := 2#32
  let v859 : BitVec 32 := Scalar.addi v858 c2_i32_671
  let v860 : BitVec 1 := Scalar.cmpi .ne v859 v2
  let v861 : BitVec 32 := Scalar.extui v860
  let c0_i32_672 : BitVec 32 := 0#32
  let v862 : BitVec 1 := Scalar.cmpi .ne v861 c0_i32_672
  v862

def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c3_i32_662 : BitVec 32 := 3#32
  let v846 : BitVec 32 := Scalar.addi v375 c3_i32_662
  let c4_i32_663 : BitVec 32 := 4#32
  let v847 : BitVec 32 := Scalar.remsi v846 c4_i32_663
  let c4_i32_670 : BitVec 32 := 4#32
  let v858 : BitVec 32 := Scalar.muli v847 c4_i32_670
  let c2_i32_671 : BitVec 32 := 2#32
  let v859 : BitVec 32 := Scalar.addi v858 c2_i32_671
  let v1513 : BitVec 32 := Scalar.subi v2 v859
  let c16_i32_1295 : BitVec 32 := 16#32
  let v1514 : BitVec 32 := Scalar.addi v1513 c16_i32_1295
  let c16_i32_1296 : BitVec 32 := 16#32
  let v1515 : BitVec 32 := Scalar.remsi v1514 c16_i32_1296
  ![v1515.toNat]
def k0_off35 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c3_i32_662 : BitVec 32 := 3#32
  let v846 : BitVec 32 := Scalar.addi v375 c3_i32_662
  let c4_i32_663 : BitVec 32 := 4#32
  let v847 : BitVec 32 := Scalar.remsi v846 c4_i32_663
  let c4_i32_670 : BitVec 32 := 4#32
  let v858 : BitVec 32 := Scalar.muli v847 c4_i32_670
  let c2_i32_671 : BitVec 32 := 2#32
  let v859 : BitVec 32 := Scalar.addi v858 c2_i32_671
  let c256_i32_1297 : BitVec 32 := 256#32
  let v1516 : BitVec 32 := Scalar.muli v859 c256_i32_1297
  ![0, v1516.toNat]
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c3_i32_662 : BitVec 32 := 3#32
  let v846 : BitVec 32 := Scalar.addi v375 c3_i32_662
  let c4_i32_663 : BitVec 32 := 4#32
  let v847 : BitVec 32 := Scalar.remsi v846 c4_i32_663
  let c4_i32_673 : BitVec 32 := 4#32
  let v863 : BitVec 32 := Scalar.muli v847 c4_i32_673
  let c3_i32_674 : BitVec 32 := 3#32
  let v864 : BitVec 32 := Scalar.addi v863 c3_i32_674
  let v865 : BitVec 1 := Scalar.cmpi .ne v864 v2
  let v866 : BitVec 32 := Scalar.extui v865
  let c0_i32_675 : BitVec 32 := 0#32
  let v867 : BitVec 1 := Scalar.cmpi .ne v866 c0_i32_675
  v867

def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c3_i32_662 : BitVec 32 := 3#32
  let v846 : BitVec 32 := Scalar.addi v375 c3_i32_662
  let c4_i32_663 : BitVec 32 := 4#32
  let v847 : BitVec 32 := Scalar.remsi v846 c4_i32_663
  let c4_i32_673 : BitVec 32 := 4#32
  let v863 : BitVec 32 := Scalar.muli v847 c4_i32_673
  let c3_i32_674 : BitVec 32 := 3#32
  let v864 : BitVec 32 := Scalar.addi v863 c3_i32_674
  let v1513 : BitVec 32 := Scalar.subi v2 v864
  let c16_i32_1295 : BitVec 32 := 16#32
  let v1514 : BitVec 32 := Scalar.addi v1513 c16_i32_1295
  let c16_i32_1296 : BitVec 32 := 16#32
  let v1515 : BitVec 32 := Scalar.remsi v1514 c16_i32_1296
  ![v1515.toNat]
def k0_off37 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_274 : BitVec 32 := 0#32
  let v360 : BitVec 1 := Scalar.cmpi .sgt v2 c0_i32_274
  let v361 : BitVec 32 := Scalar.extui v360
  let c0_i32_275 : BitVec 32 := 0#32
  let v362 : BitVec 1 := Scalar.cmpi .slt v2 c0_i32_275
  let v363 : BitVec 32 := Scalar.extui v362
  let v364 : BitVec 32 := Scalar.subi v361 v363
  let c4_i32_273 : BitVec 32 := 4#32
  let c0_i32_276 : BitVec 32 := 0#32
  let v365 : BitVec 1 := Scalar.cmpi .sgt c4_i32_273 c0_i32_276
  let v366 : BitVec 32 := Scalar.extui v365
  let c0_i32_277 : BitVec 32 := 0#32
  let v367 : BitVec 1 := Scalar.cmpi .slt c4_i32_273 c0_i32_277
  let v368 : BitVec 32 := Scalar.extui v367
  let v369 : BitVec 32 := Scalar.subi v366 v368
  let v370 : BitVec 1 := Scalar.cmpi .ne v364 v369
  let v371 : BitVec 32 := Scalar.remsi v2 c4_i32_273
  let c0_i32_278 : BitVec 32 := 0#32
  let v372 : BitVec 1 := Scalar.cmpi .ne v371 c0_i32_278
  let v373 : BitVec 1 := Scalar.andi v370 v372
  let v359 : BitVec 32 := Scalar.divsi v2 c4_i32_273
  let c1_i32_279 : BitVec 32 := 1#32
  let v374 : BitVec 32 := Scalar.subi v359 c1_i32_279
  let v375 : BitVec 32 := Scalar.select v373 v374 v359
  let c3_i32_662 : BitVec 32 := 3#32
  let v846 : BitVec 32 := Scalar.addi v375 c3_i32_662
  let c4_i32_663 : BitVec 32 := 4#32
  let v847 : BitVec 32 := Scalar.remsi v846 c4_i32_663
  let c4_i32_673 : BitVec 32 := 4#32
  let v863 : BitVec 32 := Scalar.muli v847 c4_i32_673
  let c3_i32_674 : BitVec 32 := 3#32
  let v864 : BitVec 32 := Scalar.addi v863 c3_i32_674
  let c256_i32_1297 : BitVec 32 := 256#32
  let v1516 : BitVec 32 := Scalar.muli v864 c256_i32_1297
  ![0, v1516.toNat]
def k0_dev31 (d0 : Dev nD) : Nat :=
  let c0_i32_788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_782 : BitVec 32 := 1#32
  let v999 : BitVec 32 := Scalar.addi v2 c1_i32_782
  let c16_i32_783 : BitVec 32 := 16#32
  let v1000 : BitVec 32 := Scalar.remsi v999 c16_i32_783
  let c1_i32_787 : BitVec 32 := 1#32
  let v1001 : BitVec 32 := Scalar.muli v1000 c1_i32_787
  let v1002 : BitVec 32 := Scalar.addi c0_i32_788 v1001
  v1002.toNat
def k0_dev32 (d0 : Dev nD) : Nat :=
  let c0_i32_797 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_791 : BitVec 32 := 2#32
  let v1009 : BitVec 32 := Scalar.addi v2 c2_i32_791
  let c16_i32_792 : BitVec 32 := 16#32
  let v1010 : BitVec 32 := Scalar.remsi v1009 c16_i32_792
  let c1_i32_796 : BitVec 32 := 1#32
  let v1011 : BitVec 32 := Scalar.muli v1010 c1_i32_796
  let v1012 : BitVec 32 := Scalar.addi c0_i32_797 v1011
  v1012.toNat
def k0_dev33 (d0 : Dev nD) : Nat :=
  let c0_i32_806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_800 : BitVec 32 := 3#32
  let v1019 : BitVec 32 := Scalar.addi v2 c3_i32_800
  let c16_i32_801 : BitVec 32 := 16#32
  let v1020 : BitVec 32 := Scalar.remsi v1019 c16_i32_801
  let c1_i32_805 : BitVec 32 := 1#32
  let v1021 : BitVec 32 := Scalar.muli v1020 c1_i32_805
  let v1022 : BitVec 32 := Scalar.addi c0_i32_806 v1021
  v1022.toNat
def k0_dev34 (d0 : Dev nD) : Nat :=
  let c0_i32_815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_809 : BitVec 32 := 4#32
  let v1029 : BitVec 32 := Scalar.addi v2 c4_i32_809
  let c16_i32_810 : BitVec 32 := 16#32
  let v1030 : BitVec 32 := Scalar.remsi v1029 c16_i32_810
  let c1_i32_814 : BitVec 32 := 1#32
  let v1031 : BitVec 32 := Scalar.muli v1030 c1_i32_814
  let v1032 : BitVec 32 := Scalar.addi c0_i32_815 v1031
  v1032.toNat
def k0_dev35 (d0 : Dev nD) : Nat :=
  let c0_i32_824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_818 : BitVec 32 := 5#32
  let v1039 : BitVec 32 := Scalar.addi v2 c5_i32_818
  let c16_i32_819 : BitVec 32 := 16#32
  let v1040 : BitVec 32 := Scalar.remsi v1039 c16_i32_819
  let c1_i32_823 : BitVec 32 := 1#32
  let v1041 : BitVec 32 := Scalar.muli v1040 c1_i32_823
  let v1042 : BitVec 32 := Scalar.addi c0_i32_824 v1041
  v1042.toNat
def k0_dev36 (d0 : Dev nD) : Nat :=
  let c0_i32_833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_827 : BitVec 32 := 6#32
  let v1049 : BitVec 32 := Scalar.addi v2 c6_i32_827
  let c16_i32_828 : BitVec 32 := 16#32
  let v1050 : BitVec 32 := Scalar.remsi v1049 c16_i32_828
  let c1_i32_832 : BitVec 32 := 1#32
  let v1051 : BitVec 32 := Scalar.muli v1050 c1_i32_832
  let v1052 : BitVec 32 := Scalar.addi c0_i32_833 v1051
  v1052.toNat
def k0_dev37 (d0 : Dev nD) : Nat :=
  let c0_i32_842 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_836 : BitVec 32 := 7#32
  let v1059 : BitVec 32 := Scalar.addi v2 c7_i32_836
  let c16_i32_837 : BitVec 32 := 16#32
  let v1060 : BitVec 32 := Scalar.remsi v1059 c16_i32_837
  let c1_i32_841 : BitVec 32 := 1#32
  let v1061 : BitVec 32 := Scalar.muli v1060 c1_i32_841
  let v1062 : BitVec 32 := Scalar.addi c0_i32_842 v1061
  v1062.toNat
def k0_dev38 (d0 : Dev nD) : Nat :=
  let c0_i32_851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_845 : BitVec 32 := 8#32
  let v1069 : BitVec 32 := Scalar.addi v2 c8_i32_845
  let c16_i32_846 : BitVec 32 := 16#32
  let v1070 : BitVec 32 := Scalar.remsi v1069 c16_i32_846
  let c1_i32_850 : BitVec 32 := 1#32
  let v1071 : BitVec 32 := Scalar.muli v1070 c1_i32_850
  let v1072 : BitVec 32 := Scalar.addi c0_i32_851 v1071
  v1072.toNat
def k0_dev39 (d0 : Dev nD) : Nat :=
  let c0_i32_860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_854 : BitVec 32 := 9#32
  let v1079 : BitVec 32 := Scalar.addi v2 c9_i32_854
  let c16_i32_855 : BitVec 32 := 16#32
  let v1080 : BitVec 32 := Scalar.remsi v1079 c16_i32_855
  let c1_i32_859 : BitVec 32 := 1#32
  let v1081 : BitVec 32 := Scalar.muli v1080 c1_i32_859
  let v1082 : BitVec 32 := Scalar.addi c0_i32_860 v1081
  v1082.toNat
def k0_dev40 (d0 : Dev nD) : Nat :=
  let c0_i32_869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_863 : BitVec 32 := 10#32
  let v1089 : BitVec 32 := Scalar.addi v2 c10_i32_863
  let c16_i32_864 : BitVec 32 := 16#32
  let v1090 : BitVec 32 := Scalar.remsi v1089 c16_i32_864
  let c1_i32_868 : BitVec 32 := 1#32
  let v1091 : BitVec 32 := Scalar.muli v1090 c1_i32_868
  let v1092 : BitVec 32 := Scalar.addi c0_i32_869 v1091
  v1092.toNat
def k0_dev41 (d0 : Dev nD) : Nat :=
  let c0_i32_878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_872 : BitVec 32 := 11#32
  let v1099 : BitVec 32 := Scalar.addi v2 c11_i32_872
  let c16_i32_873 : BitVec 32 := 16#32
  let v1100 : BitVec 32 := Scalar.remsi v1099 c16_i32_873
  let c1_i32_877 : BitVec 32 := 1#32
  let v1101 : BitVec 32 := Scalar.muli v1100 c1_i32_877
  let v1102 : BitVec 32 := Scalar.addi c0_i32_878 v1101
  v1102.toNat
def k0_dev42 (d0 : Dev nD) : Nat :=
  let c0_i32_887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_881 : BitVec 32 := 12#32
  let v1109 : BitVec 32 := Scalar.addi v2 c12_i32_881
  let c16_i32_882 : BitVec 32 := 16#32
  let v1110 : BitVec 32 := Scalar.remsi v1109 c16_i32_882
  let c1_i32_886 : BitVec 32 := 1#32
  let v1111 : BitVec 32 := Scalar.muli v1110 c1_i32_886
  let v1112 : BitVec 32 := Scalar.addi c0_i32_887 v1111
  v1112.toNat
def k0_dev43 (d0 : Dev nD) : Nat :=
  let c0_i32_896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_890 : BitVec 32 := 13#32
  let v1119 : BitVec 32 := Scalar.addi v2 c13_i32_890
  let c16_i32_891 : BitVec 32 := 16#32
  let v1120 : BitVec 32 := Scalar.remsi v1119 c16_i32_891
  let c1_i32_895 : BitVec 32 := 1#32
  let v1121 : BitVec 32 := Scalar.muli v1120 c1_i32_895
  let v1122 : BitVec 32 := Scalar.addi c0_i32_896 v1121
  v1122.toNat
def k0_dev44 (d0 : Dev nD) : Nat :=
  let c0_i32_905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_899 : BitVec 32 := 14#32
  let v1129 : BitVec 32 := Scalar.addi v2 c14_i32_899
  let c16_i32_900 : BitVec 32 := 16#32
  let v1130 : BitVec 32 := Scalar.remsi v1129 c16_i32_900
  let c1_i32_904 : BitVec 32 := 1#32
  let v1131 : BitVec 32 := Scalar.muli v1130 c1_i32_904
  let v1132 : BitVec 32 := Scalar.addi c0_i32_905 v1131
  v1132.toNat
def k0_dev45 (d0 : Dev nD) : Nat :=
  let c0_i32_914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_908 : BitVec 32 := 15#32
  let v1139 : BitVec 32 := Scalar.addi v2 c15_i32_908
  let c16_i32_909 : BitVec 32 := 16#32
  let v1140 : BitVec 32 := Scalar.remsi v1139 c16_i32_909
  let c1_i32_913 : BitVec 32 := 1#32
  let v1141 : BitVec 32 := Scalar.muli v1140 c1_i32_913
  let v1142 : BitVec 32 := Scalar.addi c0_i32_914 v1141
  v1142.toNat
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 12
  | .vmem => 2
  | .smem => 1
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x4096, .bf16⟩
  | .hbm, ⟨3, _⟩ => ⟨S4096x8192, .bf16⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S4096x8192, .f32⟩
  | .local _ .vmem, ⟨0, _⟩ => ⟨S4096x8192, .f32⟩
  | .local _ .vmem, ⟨1, _⟩ => ⟨S4096x8192, .f32⟩
  | .local _ .smem, ⟨0, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg2_0 : Ref sig .tc := ⟨.vmem, 1, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Program.lean ====
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

/-! # The body as a program over its peers and tiles

The printed body repeats each of its steps once per peer and once per tile. Here the same program is
written once per kind of step, generic in the peer or the tile, and shown equal to the printed one. -/

@[expose] public section

noncomputable section

namespace Cert.KernelIdeal.Own

open Cert.KernelIdeal Cert.KernelIdeal.Gen
open Idealize.ShloMosaic Idealize.ShloMosaic.TcCoe Idealize.SL.Sem

variable {F : FTy → Type} [FloatOps F]

/-! ## Names for the buffers -/

/-- The shard of `x` in VMEM. -/
abbrev xM : Memref sig .tc .vmem S4096x256 .f32 := Memref.whole cc0_stg0_0
/-- The whole of `w` in HBM. -/
abbrev wM : Memref sig .tc .hbm S4096x8192 .f32 := Memref.whole main_arg1
/-- The result block in VMEM. -/
abbrev oM : Memref sig .tc .vmem S256x8192 .f32 := Memref.whole cc0_stg1_0
/-- The send buffer. -/
abbrev sbM : Memref sig .tc .vmem S16x256x256 .bf16 := Memref.whole cc0_scratch0
/-- The gathered rows. -/
abbrev xrM : Memref sig .tc .vmem S256x4096 .bf16 := Memref.whole cc0_scratch1
/-- The two slots for tiles of `w`. -/
abbrev wbM : Memref sig .tc .vmem S2x1024x2048 .f32 := Memref.whole cc0_scratch2
/-- The running product. -/
abbrev yM : Memref sig .tc .vmem S256x8192 .f32 := Memref.whole cc0_scratch3
/-- The device's own maximum, spread over a tile. -/
abbrev abM : Memref sig .tc .vmem S8x128 .f32 := Memref.whole cc0_scratch4
/-- The peers' maxima. -/
abbrev acM : Memref sig .tc .vmem S16x8x128 .f32 := Memref.whole cc0_scratch5
/-- The entry barrier's semaphore. -/
abbrev barS : Sem sig := (SemArray.scalar (sig.barrier 0 rfl) : Sems sig S_).sem

/-! ## Slots in bounds -/

theorem inb_sb (r : Fin 15) :
    ∀ a, (![1 + r.val, 0, 0] : Fin 3 → Nat) a + S1x256x256.size a ≤ S16x256x256.size a := by
  revert r; decide
theorem inb_ac (r : Fin 15) :
    ∀ a, (![1 + r.val, 0, 0] : Fin 3 → Nat) a + S1x8x128.size a ≤ S16x8x128.size a := by
  revert r; decide
theorem inb_sem (r : Fin 15) : ∀ a, (![1 + r.val] : Fin 1 → Nat) a + S1.size a ≤ S16.size a := by
  revert r; decide
theorem inb_wd (q : Fin 4) : ∀ a, (![q.val % 2] : Fin 1 → Nat) a + S1.size a ≤ S2.size a := by
  revert q; decide
theorem inb_wb (q : Fin 4) :
    ∀ a, (![q.val % 2, 0, 0] : Fin 3 → Nat) a + S1x1024x2048.size a ≤ S2x1024x2048.size a := by
  revert q; decide
theorem inb_y (q : Fin 4) :
    ∀ a, (![0, q.val * 2048] : Fin 2 → Nat) a + S256x2048.size a ≤ S256x8192.size a := by
  revert q; decide
theorem inb_w (g q : Fin 4) :
    ∀ a, (![g.val * 1024, q.val * 2048] : Fin 2 → Nat) a + S1024x2048.size a ≤ S4096x8192.size a := by
  revert g q; decide
theorem packed_sb (r : Fin 15) :
    (Rect.unit (s := S16x256x256) ![1 + r.val, 0, 0] S1x256x256.size (inb_sb r)).PackedRows
      (EltTy.packing .bf16) := by
  revert r; decide
theorem words_sb (r : Fin 15) :
    (Rect.unit (s := S16x256x256) ![1 + r.val, 0, 0] S1x256x256.size (inb_sb r)).WholeWords
      (EltTy.packing .bf16) := by
  revert r; decide

/-! ## The slots and tiles -/

/-- Slot `1 + r` of the send buffer. -/
abbrev sbRect (r : Fin 15) : Rect S16x256x256 :=
  Rect.unit (s := S16x256x256) ![1 + r.val, 0, 0] S1x256x256.size (inb_sb r)
/-- Slot `1 + r` of the send buffer, as a 256 by 256 tile. -/
abbrev sbSlot (r : Fin 15) : Memref sig .tc .vmem S256x256 .bf16 :=
  (sbM.slice (sbRect r) (fun _ => rfl)).squeeze S256x256 squeezes_S1x256x256_S256x256
/-- Slot 0 of the send buffer, which no copy uses: the receive waits name it for its size. -/
abbrev sbSlot0 : Memref sig .tc .vmem S256x256 .bf16 :=
  (sbM.slice (Rect.unit (s := S16x256x256) ![0, 0, 0] S1x256x256.size
    inb_S16x256x256_S1x256x256_0_0_0) (fun _ => rfl)).squeeze S256x256 squeezes_S1x256x256_S256x256
/-- Slot `1 + r` of the peers' maxima. -/
abbrev acRect (r : Fin 15) : Rect S16x8x128 :=
  Rect.unit (s := S16x8x128) ![1 + r.val, 0, 0] S1x8x128.size (inb_ac r)
/-- Slot `1 + r` of the peers' maxima, as an 8 by 128 tile. -/
abbrev acSlot (r : Fin 15) : Memref sig .tc .vmem S8x128 .f32 :=
  (acM.slice (acRect r) (fun _ => rfl)).squeeze S8x128 squeezes_S1x8x128_S8x128
/-- Semaphore number `1 + r` of an array of sixteen. -/
abbrev semAt (s : DmaSems sig S16) (r : Fin 15) : DmaSem sig :=
  ((s.slice (Rect.unit (s := S16) ![1 + r.val] S1.size (inb_sem r))).squeeze S_ squeezes_S1_S_).sem
/-- The semaphore of the slot tile `q` of `w` is copied into. -/
abbrev wdSem (q : Fin 4) : DmaSem sig :=
  ((cc0_scratch10.slice (Rect.unit (s := S2) ![q.val % 2] S1.size (inb_wd q))).squeeze S_
    squeezes_S1_S_).sem
/-- The slot tile `q` of `w` is copied into. -/
abbrev wbRect (q : Fin 4) : Rect S2x1024x2048 :=
  Rect.unit (s := S2x1024x2048) ![q.val % 2, 0, 0] S1x1024x2048.size (inb_wb q)
abbrev wbSlot (q : Fin 4) : Memref sig .tc .vmem S1024x2048 .f32 :=
  (wbM.slice (wbRect q) (fun _ => rfl)).squeeze S1024x2048 squeezes_S1x1024x2048_S1024x2048
/-- Rows `1024 g` on and columns `2048 q` on of `w`. -/
abbrev wTile (g q : Fin 4) : Memref sig .tc .hbm S1024x2048 .f32 :=
  wM.slice (Rect.unit (s := S4096x8192) ![g.val * 1024, q.val * 2048] S1024x2048.size (inb_w g q))
    (fun _ => rfl)
/-- Columns `2048 q` on of the product. -/
abbrev yRect (q : Fin 4) : Rect S256x8192 :=
  Rect.unit (s := S256x8192) ![0, q.val * 2048] S256x2048.size (inb_y q)
/-- Device `c`'s column block of the gathered rows. -/
abbrev xrCol (c : Dev nD) : Memref sig .tc .vmem S256x256 .bf16 :=
  xrM.slice (Rect.unit (s := S256x4096) (k0_off2 c) S256x256.size (k0_off2_inb c)) (fun _ => rfl)

/-! ## The devices named -/

/-- The device the entry signal number `r` goes to, as the kernel computes it. -/
def sigDev (r : Fin 15) (c : Dev nD) : Dev nD :=
  match r with
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩
  | 5 => ⟨k0_dev6 c, k0_dev6_lt c⟩
  | 6 => ⟨k0_dev7 c, k0_dev7_lt c⟩
  | 7 => ⟨k0_dev8 c, k0_dev8_lt c⟩
  | 8 => ⟨k0_dev9 c, k0_dev9_lt c⟩
  | 9 => ⟨k0_dev10 c, k0_dev10_lt c⟩
  | 10 => ⟨k0_dev11 c, k0_dev11_lt c⟩
  | 11 => ⟨k0_dev12 c, k0_dev12_lt c⟩
  | 12 => ⟨k0_dev13 c, k0_dev13_lt c⟩
  | 13 => ⟨k0_dev14 c, k0_dev14_lt c⟩
  | 14 => ⟨k0_dev15 c, k0_dev15_lt c⟩

/-- The device the rows number `r` are copied to, as the kernel computes it. -/
def sendDev (r : Fin 15) (c : Dev nD) : Dev nD :=
  match r with
  | 0 => ⟨k0_dev16 c, k0_dev16_lt c⟩
  | 1 => ⟨k0_dev17 c, k0_dev17_lt c⟩
  | 2 => ⟨k0_dev18 c, k0_dev18_lt c⟩
  | 3 => ⟨k0_dev19 c, k0_dev19_lt c⟩
  | 4 => ⟨k0_dev20 c, k0_dev20_lt c⟩
  | 5 => ⟨k0_dev21 c, k0_dev21_lt c⟩
  | 6 => ⟨k0_dev22 c, k0_dev22_lt c⟩
  | 7 => ⟨k0_dev23 c, k0_dev23_lt c⟩
  | 8 => ⟨k0_dev24 c, k0_dev24_lt c⟩
  | 9 => ⟨k0_dev25 c, k0_dev25_lt c⟩
  | 10 => ⟨k0_dev26 c, k0_dev26_lt c⟩
  | 11 => ⟨k0_dev27 c, k0_dev27_lt c⟩
  | 12 => ⟨k0_dev28 c, k0_dev28_lt c⟩
  | 13 => ⟨k0_dev29 c, k0_dev29_lt c⟩
  | 14 => ⟨k0_dev30 c, k0_dev30_lt c⟩

/-- The device the maximum number `r` is copied to, as the kernel computes it. -/
def amaxDev (r : Fin 15) (c : Dev nD) : Dev nD :=
  match r with
  | 0 => ⟨k0_dev31 c, k0_dev31_lt c⟩
  | 1 => ⟨k0_dev32 c, k0_dev32_lt c⟩
  | 2 => ⟨k0_dev33 c, k0_dev33_lt c⟩
  | 3 => ⟨k0_dev34 c, k0_dev34_lt c⟩
  | 4 => ⟨k0_dev35 c, k0_dev35_lt c⟩
  | 5 => ⟨k0_dev36 c, k0_dev36_lt c⟩
  | 6 => ⟨k0_dev37 c, k0_dev37_lt c⟩
  | 7 => ⟨k0_dev38 c, k0_dev38_lt c⟩
  | 8 => ⟨k0_dev39 c, k0_dev39_lt c⟩
  | 9 => ⟨k0_dev40 c, k0_dev40_lt c⟩
  | 10 => ⟨k0_dev41 c, k0_dev41_lt c⟩
  | 11 => ⟨k0_dev42 c, k0_dev42_lt c⟩
  | 12 => ⟨k0_dev43 c, k0_dev43_lt c⟩
  | 13 => ⟨k0_dev44 c, k0_dev44_lt c⟩
  | 14 => ⟨k0_dev45 c, k0_dev45_lt c⟩

/-! ## The words computed from the device's number -/

/-- The device's number. -/
def meW (c : Dev nD) : BitVec 32 := Scalar.remsi (Scalar.divsi (Dev.word c) 1#32) 16#32
/-- The device's group of four, by the floor division the kernel writes out. -/
def firstW (c : Dev nD) : BitVec 32 :=
  Scalar.select
    (Scalar.andi
      (Scalar.cmpi .ne
        (Scalar.subi (Scalar.extui (Scalar.cmpi .sgt (meW c) 0#32) : BitVec 32)
          (Scalar.extui (Scalar.cmpi .slt (meW c) 0#32)))
        (Scalar.subi (Scalar.extui (Scalar.cmpi .sgt 4#32 0#32) : BitVec 32)
          (Scalar.extui (Scalar.cmpi .slt 4#32 0#32))))
      (Scalar.cmpi .ne (Scalar.remsi (meW c) 4#32) 0#32))
    (Scalar.subi (Scalar.divsi (meW c) 4#32) 1#32)
    (Scalar.divsi (meW c) 4#32)
/-- The group of rows of `w` used in round `j`. -/
def grpW (c : Dev nD) (j : Fin 4) : BitVec 32 :=
  Scalar.remsi (Scalar.addi (firstW c) (BitVec.ofNat 32 j.val)) 4#32
/-- Whether round `j` uses group `g`. -/
def wCond (c : Dev nD) (j g : Fin 4) : BitVec 1 :=
  Scalar.cmpi .ne (Scalar.extui (Scalar.cmpi .eq (grpW c j) (BitVec.ofNat 32 g.val)) : BitVec 32)
    0#32
/-- The device whose rows are number `s` of round `j`. -/
def srcW (c : Dev nD) (j s : Fin 4) : BitVec 32 :=
  Scalar.addi (Scalar.muli (grpW c j) 4#32) (BitVec.ofNat 32 s.val)
/-- Whether those rows come from another device. -/
def rCond (c : Dev nD) (j s : Fin 4) : BitVec 1 :=
  Scalar.cmpi .ne (Scalar.extui (Scalar.cmpi .ne (srcW c j s) (meW c)) : BitVec 32) 0#32
/-- The number of the semaphore those rows arrive on. -/
def rSem (c : Dev nD) (j s : Fin 4) : Fin 1 → Nat :=
  ![(Scalar.remsi (Scalar.addi (Scalar.subi (meW c) (srcW c j s)) 16#32) 16#32).toNat]
/-- Where those rows lie. -/
def rCol (c : Dev nD) (j s : Fin 4) : Fin 2 → Nat := ![0, (Scalar.muli (srcW c j s) 256#32).toNat]

theorem rSem_inb : ∀ (c : Dev nD) (j s : Fin 4), rCond c j s = 1#1 →
    ∀ a, rSem c j s a + S1.size a ≤ S16.size a := by decide +kernel
theorem rCol_inb : ∀ (c : Dev nD) (j s : Fin 4), rCond c j s = 1#1 →
    ∀ a, rCol c j s a + S256x256.size a ≤ S256x4096.size a := by decide +kernel
theorem rCol_words : ∀ (c : Dev nD) (j s : Fin 4) (h : rCond c j s = 1#1),
    (Rect.unit (s := S256x4096) (rCol c j s) S256x256.size (rCol_inb c j s h)).WholeWords
      (EltTy.packing .bf16) := by decide +kernel

/-! ## The values stored -/

/-- Rows rounded to bfloat16. -/
def rowsPay (v : Vec F S256x256 .f32) : FVec F S256x256 .bf16 :=
  truncf .bf16 (shapeCast S256x256 v shapeCasts_S256x256_S256x256 : FVec F S256x256 .f32)
    bitsLt_bf16_f32
/-- Rows rounded to bfloat16, as a slot of the send buffer. -/
def sendPay (v : Vec F S256x256 .f32) : FVec F S1x256x256 .bf16 :=
  shapeCast S1x256x256 (rowsPay v) shapeCasts_S256x256_S1x256x256
/-- Rows rounded to bfloat16, as a column block. -/
def ownPay (v : Vec F S256x256 .f32) : FVec F S256x256 .bf16 :=
  shapeCast S256x256 (rowsPay v) shapeCasts_S256x256_S256x256
/-- The product of a row block with a tile of `w`. -/
def dotPay (xg : Vec F S256x1024 .bf16) (w : Vec F S1x1024x2048 .f32) : FVec F S256x2048 .f32 :=
  matmul dot_S256x1024_S1024x2048_S256x2048_1_0_0_1_n_n none xg
    (shapeCast S1024x2048 w shapeCasts_S1x1024x2048_S1024x2048 : FVec F S1024x2048 .f32)
    (constant S256x2048 .f32 0x00000000#32)
/-- The first contribution to a tile of the product. -/
def initPay (xg : Vec F S256x1024 .bf16) (w : Vec F S1x1024x2048 .f32) : FVec F S256x2048 .f32 :=
  shapeCast S256x2048 (dotPay xg w) shapeCasts_S256x2048_S256x2048
/-- A further contribution to a tile of the product. -/
def accPay (y : Vec F S256x2048 .f32) (xg : Vec F S256x1024 .bf16) (w : Vec F S1x1024x2048 .f32) :
    FVec F S256x2048 .f32 :=
  shapeCast S256x2048 (addf y (dotPay xg w)) shapeCasts_S256x2048_S256x2048
/-- The largest magnitude of a tile of the product. -/
def tileMax (y : Vec F S256x2048 .f32) : F .f32 :=
  extractAt ![0, 0, 0]
    (shapeCast S1x1x1
      (multiReduction .maximumf [1, 2] S1
        (shapeCast S1x256x2048 (absf y : FVec F S256x2048 .f32) shapeCasts_S256x2048_S1x256x2048)
        0xFF800000#32 reduces_S1x256x2048_S1 (.inl rfl) rfl : FVec F S1 .f32)
      shapeCasts_S1_S1x1x1) inpos_S1x1x1_p0_0_0
/-- The largest magnitude of four tiles. -/
def ownMax (y0 y1 y2 y3 : Vec F S256x2048 .f32) : F .f32 :=
  Scalar.maximumf (Scalar.maximumf (Scalar.maximumf (tileMax y0) (tileMax y1)) (tileMax y2))
    (tileMax y3)
/-- The maximum spread over a tile. -/
def spread (m : F .f32) : FVec F S8x128 .f32 :=
  shapeCast S8x128 (broadcast S8x128 m : FVec F S8x128 .f32) shapeCasts_S8x128_S8x128
/-- The maximum with the largest entry of a peer's tile. -/
def maxStep (m : F .f32) (v : Vec F S1x8x128 .f32) : F .f32 :=
  Scalar.maximumf m
    (extractAt ![0, 0, 0]
      (shapeCast S1x1x1
        (multiReduction .maximumf [1, 2] S1
          (shapeCast S1x8x128 (shapeCast S8x128 v shapeCasts_S1x8x128_S8x128 : FVec F S8x128 .f32)
            shapeCasts_S8x128_S1x8x128)
          0xFF800000#32 reduces_S1x8x128_S1 (.inl rfl) rfl : FVec F S1 .f32)
        shapeCasts_S1_S1x1x1) inpos_S1x1x1_p0_0_0)
/-- A tile of the result: scaled, rounded to an eight-bit float, and scaled back. -/
def outPay (m : F .f32) (y : Vec F S256x2048 .f32) : FVec F S256x2048 .f32 :=
  mulf
    (extf .f32
      (truncf .fp8e4m3
        (mulf y (broadcast S256x2048 (Scalar.divf (Scalar.ofBits .f32 0x43E00000#32) m)))
        bitsLt_fp8e4m3_f32 : FVec F S256x2048 .fp8e4m3)
      bitsLt_fp8e4m3_f32)
    (broadcast S256x2048 (Scalar.divf m (Scalar.ofBits .f32 0x43E00000#32)))

/-! ## The program -/

/-- Programs of the body's kind. -/
abbrev Body (F : FTy → Type) := Prog (TpuEff nD τ sig (Elt F) Λ₀ .tc) PUnit

/-- Do one step where a condition holds, then go on. -/
def whenDo (b : BitVec 1) (e : b = 1#1 → TpuEff nD τ sig (Elt F) Λ₀ .tc PUnit) (K : Body F) : Body F :=
  if h : b = 1#1 then .op (e h) (fun _ => K) else K

/-- The list of the fifteen peers. -/
abbrev peers : List (Fin 15) := [0, 1, 2, 3, 4, 5, 6, 7, 8, 9, 10, 11, 12, 13, 14]

/-- Signal the peers' barriers. -/
def signals (c : Dev nD) : List (Fin 15) → Body F → Body F
  | [], K => K
  | r :: l, K => .op (.semSignal (sigDev r c, Proc.tc) barS 1) fun _ => signals c l K

/-- Store the rows for peer `r` rounded into their slot of the send buffer. -/
def packRows (c : Dev nD) (r : Fin 15) (K : Body F) : Body F :=
  .op (.load xM (Rect.unit (s := S4096x256) (k0_off1 c (BitVec.ofNat 32 (1 + r.val))) S256x256.size
      (k0_off1_inb c r)).toLoadRect (View.loadsAt_vmem h_S256x256)) fun v =>
  .op (.load sbM (sbRect r).toLoadRect (View.loadsAt_vmem h_S1x256x256)) fun _ =>
  .op (.store sbM (sbRect r) (sendPay v) Finset.univ
      (View.stores_vmem h_S1x256x256 ((Memref.isWhole_whole _).storeExact_slice rfl _ (packed_sb r))
        (fun _ => rfl)) (.inl rfl)) fun _ => K

/-- The copy of the rows for peer `r` into its gathered rows. -/
abbrev sendRows (c : Dev nD) (r : Fin 15) : TpuEff nD τ sig (Elt F) Λ₀ .tc PUnit :=
  .enqueueDma (sbSlot r)
    (.remote (Dev.tc (sendDev r c)) (xrCol c) (.dma (semAt cc0_scratch6 r)))
    (.dma (semAt cc0_scratch7 r))
    (((Memref.isWhole_whole _).wordExact_slice rfl _ (words_sb r)).reshape _ _)
    ((Memref.isWhole_whole _).wordExact_slice rfl _ (k0_off2_wordsbf16 c))
    ⟨⟨rfl, Or.inl rfl⟩, trivial⟩

/-- Pack and copy the rows for each peer. -/
def sends (c : Dev nD) : List (Fin 15) → Body F → Body F
  | [], K => K
  | r :: l, K => packRows c r (.op (sendRows c r) fun _ => sends c l K)

/-- Store the device's own rows among the gathered ones. -/
def ownRows (c : Dev nD) (K : Body F) : Body F :=
  .op (.load xM (Rect.unit (s := S4096x256) (k0_off3 c) S256x256.size (k0_off3_inb c)).toLoadRect
      (View.loadsAt_vmem h_S256x256)) fun v =>
  .op (.load xrM (Rect.unit (s := S256x4096) (k0_off4 c) S256x256.size (k0_off4_inb c)).toLoadRect
      (View.loadsAt_vmem h_S256x256)) fun _ =>
  .op (.store xrM (Rect.unit (s := S256x4096) (k0_off4 c) S256x256.size (k0_off4_inb c)) (ownPay v)
      Finset.univ
      (View.stores_vmem h_S256x256
        ((Memref.isWhole_whole _).storeExact_slice rfl _ (k0_off4_packedbf16 c)) (fun _ => rfl))
      (.inl rfl)) fun _ => K

/-- The copy of one tile of `w` into its slot. -/
abbrev copyW (g q : Fin 4) : TpuEff nD τ sig (Elt F) Λ₀ .tc PUnit :=
  .enqueueDma (wTile g q) (.here (wbSlot q)) (.dma (wdSem q)) (View.wordExact_bits rfl)
    ((View.wordExact_bits rfl).reshape _ _) ⟨Or.inl rfl, trivial⟩

/-- Start the copy of tile `q` of the group of round `j`. -/
def startW (c : Dev nD) (j q : Fin 4) (K : Body F) : Body F :=
  whenDo (wCond c j 0) (fun _ => copyW 0 q) <|
  whenDo (wCond c j 1) (fun _ => copyW 1 q) <|
  whenDo (wCond c j 2) (fun _ => copyW 2 q) <|
  whenDo (wCond c j 3) (fun _ => copyW 3 q) K

/-- The wait for rows number `s` of round `j`. -/
abbrev recvRows (c : Dev nD) (j s : Fin 4) (h : rCond c j s = 1#1) :
    TpuEff nD τ sig (Elt F) Λ₀ .tc PUnit :=
  .waitDma2
    ((cc0_scratch7.slice (Rect.unit (s := S16) (rSem c j s) S1.size (rSem_inb c j s h))).squeeze S_
      squeezes_S1_S_).sem
    sbSlot0
    (xrM.slice (Rect.unit (s := S256x4096) (rCol c j s) S256x256.size (rCol_inb c j s h))
      (fun _ => rfl))
    (((Memref.isWhole_whole _).wordExact_slice rfl _ wordsbf16_S16x256x256_S1x256x256_0_0_0).reshape
      _ _)
    ((Memref.isWhole_whole _).wordExact_slice rfl _ (rCol_words c j s h))

/-- Wait for the rows of round `j`. -/
def recvs (c : Dev nD) (j : Fin 4) (K : Body F) : Body F :=
  whenDo (rCond c j 0) (recvRows c j 0) <|
  whenDo (rCond c j 1) (recvRows c j 1) <|
  whenDo (rCond c j 2) (recvRows c j 2) <|
  whenDo (rCond c j 3) (recvRows c j 3) K

/-- Wait for tile `q` of `w`. -/
def waitW (q : Fin 4) (K : Body F) : Body F :=
  .op (.waitDma2 (wdSem q) (wTile 0 q) (wbSlot q) (View.wordExact_bits rfl)
    ((View.wordExact_bits rfl).reshape _ _)) fun _ => K

/-- The load of the row block of round `j`. -/
abbrev loadX (c : Dev nD) (j : Fin 4) :
    TpuEff nD τ sig (Elt F) Λ₀ .tc (Vec F S256x1024 .bf16) :=
  .load xrM (Rect.unit (s := S256x4096) (k0_off13 c (BitVec.ofNat 32 j.val)) S256x1024.size
    (k0_off13_inb c j)).toLoadRect (View.loadsAt_vmem h_S256x1024)
/-- The load of tile `q` of `w`. -/
abbrev loadW (q : Fin 4) : TpuEff nD τ sig (Elt F) Λ₀ .tc (Vec F S1x1024x2048 .f32) :=
  .load wbM (wbRect q).toLoadRect (View.loadsAt_vmem h_S1x1024x2048)
/-- The load of tile `q` of the product. -/
abbrev loadY (q : Fin 4) : TpuEff nD τ sig (Elt F) Λ₀ .tc (Vec F S256x2048 .f32) :=
  .load yM (yRect q).toLoadRect (View.loadsAt_vmem h_S256x2048)
/-- The store of tile `q` of the product. -/
abbrev storeY (q : Fin 4) (v : Vec F S256x2048 .f32) : TpuEff nD τ sig (Elt F) Λ₀ .tc PUnit :=
  .store yM (yRect q) v Finset.univ (View.stores_vmem_bits_univ h_S256x2048 rfl) (.inl rfl)

/-- The first contribution to tile `q`. -/
def dotFirst (c : Dev nD) (q : Fin 4) (K : Body F) : Body F :=
  .op (loadX c 0) fun xg => .op (loadW q) fun w => .op (loadY q) fun _ =>
  .op (storeY q (initPay xg w)) fun _ => K

/-- The contribution of round `j` to tile `q`. -/
def dotNext (c : Dev nD) (j q : Fin 4) (K : Body F) : Body F :=
  .op (loadX c j) fun xg => .op (loadW q) fun w => .op (loadY q) fun y => .op (loadY q) fun _ =>
  .op (storeY q (accPay y xg w)) fun _ => K

/-- The first round, and the start of the next one's first copy. -/
def roundFirst (c : Dev nD) (K : Body F) : Body F :=
  startW c 0 1 <| recvs c 0 <| waitW 0 <| dotFirst c 0 <|
  startW c 0 2 <| waitW 1 <| dotFirst c 1 <|
  startW c 0 3 <| waitW 2 <| dotFirst c 2 <|
  startW c 1 0 <| waitW 3 <| dotFirst c 3 K

/-- Round `j`, up to its last tile. -/
def roundNext (c : Dev nD) (j : Fin 4) (K : Body F) : Body F :=
  startW c j 1 <| recvs c j <| waitW 0 <| dotNext c j 0 <|
  startW c j 2 <| waitW 1 <| dotNext c j 1 <|
  startW c j 3 <| waitW 2 <| dotNext c j 2 K

/-- The last tile of round `j`. -/
def roundLast (c : Dev nD) (j : Fin 4) (K : Body F) : Body F := waitW 3 <| dotNext c j 3 K

/-- The device's own maximum, spread over a tile and handed on. -/
def localMax (K : F .f32 → Body F) : Body F :=
  .op (loadY 0) fun y0 => .op (loadY 1) fun y1 => .op (loadY 2) fun y2 => .op (loadY 3) fun y3 =>
  .op (.load abM (Rect.unit (s := S8x128) ![0, 0] S8x128.size inb_S8x128_S8x128_0_0).toLoadRect
    (View.loadsAt_vmem h_S8x128)) fun _ =>
  .op (.store abM (Rect.unit (s := S8x128) ![0, 0] S8x128.size inb_S8x128_S8x128_0_0)
    (spread (ownMax y0 y1 y2 y3)) Finset.univ (View.stores_vmem_bits_univ h_S8x128 rfl)
    (.inl rfl)) fun _ => K (ownMax y0 y1 y2 y3)

/-- The copy of the maximum to peer `r`. -/
abbrev sendMax (c : Dev nD) (r : Fin 15) : TpuEff nD τ sig (Elt F) Λ₀ .tc PUnit :=
  .enqueueDma abM (.remote (Dev.tc (amaxDev r c)) (acSlot r) (.dma (semAt cc0_scratch8 r)))
    (.dma (semAt cc0_scratch9 r)) (Memref.isWhole_whole _).wordExact
    ((View.wordExact_bits rfl).reshape _ _) ⟨⟨rfl, Or.inl rfl⟩, trivial⟩

/-- Copy the maximum to each peer. -/
def sendMaxs (c : Dev nD) : List (Fin 15) → Body F → Body F
  | [], K => K
  | r :: l, K => .op (sendMax c r) fun _ => sendMaxs c l K

/-- Wait for each peer's maximum and take it into the running one. -/
def recvMaxs : List (Fin 15) → F .f32 → (F .f32 → Body F) → Body F
  | [], m, K => K m
  | r :: l, m, K =>
    .op (.waitDma2 (semAt cc0_scratch9 r) abM (acSlot r) (Memref.isWhole_whole _).wordExact
      ((View.wordExact_bits rfl).reshape _ _)) fun _ =>
    .op (.load acM (acRect r).toLoadRect (View.loadsAt_vmem h_S1x8x128)) fun v =>
    recvMaxs l (maxStep m v) K

/-- Wait until the rows have left the send buffer. -/
def sentRows (c : Dev nD) : List (Fin 15) → Body F → Body F
  | [], K => K
  | r :: l, K =>
    .op (.waitDma2 (semAt cc0_scratch6 r) (xrCol c) (sbSlot r)
      ((Memref.isWhole_whole _).wordExact_slice rfl _ (k0_off2_wordsbf16 c))
      (((Memref.isWhole_whole _).wordExact_slice rfl _ (words_sb r)).reshape _ _)) fun _ =>
    sentRows c l K

/-- Wait until the maximum has left its tile. -/
def sentMaxs : List (Fin 15) → Body F → Body F
  | [], K => K
  | r :: l, K =>
    .op (.waitDma2 (semAt cc0_scratch8 r) (acSlot r) abM ((View.wordExact_bits rfl).reshape _ _)
      (Memref.isWhole_whole _).wordExact) fun _ => sentMaxs l K

/-- Tile `q` of the result. -/
def outTile (m : F .f32) (q : Fin 4) (K : Body F) : Body F :=
  .op (loadY q) fun y =>
  .op (.load oM (yRect q).toLoadRect (View.loadsAt_vmem h_S256x2048)) fun _ =>
  .op (.store oM (yRect q) (outPay m y) Finset.univ (View.stores_vmem_bits_univ h_S256x2048 rfl)
    (.inl rfl)) fun _ => K

/-- The result from the product and the maximum over all devices. -/
def outTiles (m : F .f32) (K : Body F) : Body F :=
  outTile m 0 <| outTile m 1 <| outTile m 2 <| outTile m 3 K

/-- The body after the entry barrier. -/
def afterBarrier (c : Dev nD) : Body F :=
  sends c peers <| ownRows c <| startW c 0 0 <| roundFirst c <|
  roundNext c 1 <| startW c 2 0 <| roundLast c 1 <|
  roundNext c 2 <| startW c 3 0 <| roundLast c 2 <|
  roundNext c 3 <| roundLast c 3 <|
  localMax fun m => sendMaxs c peers <| recvMaxs peers m fun m' =>
  sentRows c peers <| sentMaxs peers <| outTiles m' (.ret ⟨⟩)

/-- The body. -/
def body : Body F :=
  .op .deviceId fun c => signals c peers <| .op (.semWait barS 15) fun _ => afterBarrier c

/-! ## The printed body is this program -/

section Congr

variable {α β γ δ : Type}

/-- Effects of the body's kind. -/
abbrev Eff (F : FTy → Type) := TpuEff nD τ sig (Elt F) Λ₀ .tc

omit [FloatOps F] in
theorem op_congr {e e' : Eff F α} {f g : α → Prog (Eff F) β} (he : e = e') (h : ∀ x, f x = g x) :
    Prog.op e f = Prog.op e' g := by
  subst he; exact congrArg _ (funext h)
omit [FloatOps F] in
theorem bind_op_congr {e e' : Eff F α} {f : α → Prog (Eff F) γ} {g : γ → Prog (Eff F) β}
    {K : α → Prog (Eff F) β} (he : e = e') (h : ∀ x, (f x >>= g) = K x) :
    (Prog.op e f >>= g) = Prog.op e' K := by
  subst he; exact congrArg _ (funext h)
omit [FloatOps F] in
theorem bind_ret_congr {x : γ} {f : γ → Prog (Eff F) β} {K : Prog (Eff F) β} (h : f x = K) :
    (Prog.ret x >>= f) = K := h
omit [FloatOps F] in
theorem bind_bind_congr {a : Prog (Eff F) δ} {f : δ → Prog (Eff F) γ} {g : γ → Prog (Eff F) β}
    {K : Prog (Eff F) β} (h : (a >>= fun x => f x >>= g) = K) : ((a >>= f) >>= g) = K := by
  rw [← h]; exact bind_assoc a f g
theorem when_congr {b b' : BitVec 1} {e : b' = 1#1 → Eff F PUnit}
    {A : b = 1#1 → Prog (Eff F) γ} {B : ¬ b = 1#1 → Prog (Eff F) γ}
    {rest : Prog (Eff F) γ} {f : γ → Body F} {K : Body F} (hb : b = b')
    (hB : ∀ h, B h = rest) (hA : ∀ h h', A h = Prog.op (e h') (fun _ => rest))
    (hK : (rest >>= f) = K) :
    (dite (b = 1#1) A B >>= f) = whenDo b' e K := by
  subst hb hK; unfold whenDo
  by_cases h : b = 1#1
  · rw [dif_pos h, dif_pos h, hA h h]; rfl
  · rw [dif_neg h, dif_neg h, hB h]
theorem when_congr' {b b' : BitVec 1} {e : b' = 1#1 → Eff F PUnit}
    {A : b = 1#1 → Body F} {B : ¬ b = 1#1 → Body F} {rest K : Body F} (hb : b = b')
    (hB : ∀ h, B h = rest) (hA : ∀ h h', A h = Prog.op (e h') (fun _ => rest)) (hK : rest = K) :
    dite (b = 1#1) A B = whenDo b' e K := by
  subst hb hK; unfold whenDo
  by_cases h : b = 1#1
  · rw [dif_pos h, dif_pos h, hA h h]
  · rw [dif_neg h, dif_neg h, hB h]

end Congr

set_option maxRecDepth 65536 in
set_option maxHeartbeats 8000000 in
/-- The printed body is `body`. -/
theorem body_eq :
    cc0_body (F := F) xM (Memref.isWhole_whole _) wM (Memref.isWhole_whole _) oM
      (Memref.isWhole_whole _) sbM (Memref.isWhole_whole _) xrM (Memref.isWhole_whole _) wbM
      (Memref.isWhole_whole _) yM (Memref.isWhole_whole _) abM (Memref.isWhole_whole _) acM
      (Memref.isWhole_whole _) cc0_scratch6 cc0_scratch7 cc0_scratch8 cc0_scratch9 cc0_scratch10
    = body (F := F) := by
  simp only [cc0_body_eq_skeleton]
  unfold cc0_body_skel
  simp only [k0_part52_eq_skeleton]
  unfold k0_part52_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel
  dsimp only [semSignalWord, semWaitWord, Prog.lift, Prog.bind_op, Prog.bind_ret, Prog.pure_eq_ret]
  dsimp only [body, signals, afterBarrier, sends, packRows, ownRows, startW, roundFirst, roundNext,
    roundLast, recvs, waitW, dotFirst, dotNext, localMax, sendMaxs, recvMaxs, sentRows, sentMaxs,
    outTiles, outTile, peers]
  repeat first
    | (with_reducible (refine op_congr ?_ fun _ => ?_)); rfl
    | (with_reducible (refine bind_bind_congr ?_))
    | (with_reducible (refine bind_op_congr ?_ fun _ => ?_)); rfl
    | (with_reducible (refine bind_ret_congr ?_))
    | (with_reducible (refine when_congr (F := F) ?_ (fun _ => rfl) ?_ ?_)); rfl; exact fun _ _ => rfl
    | (with_reducible (refine when_congr' (F := F) ?_ (fun _ => rfl) ?_ ?_)); rfl; exact fun _ _ => rfl
  all_goals rfl

end Cert.KernelIdeal.Own
-- ==== Proof.Contents.lean ====
module

public import proofs.«01_k».proof.Proof.Program

/-! # What the buffers hold

The devices named by the program, and the contents every buffer has at the points of the run that
matter, as functions of the memory at launch. -/

@[expose] public section

noncomputable section

namespace Cert.KernelIdeal.Own

open Cert.KernelIdeal Cert.KernelIdeal.Gen
open Idealize.ShloMosaic Idealize.ShloMosaic.TcCoe Idealize.SL.Sem

variable {F : FTy → Type} [FloatOps F]

/-! ## The devices -/

/-- The peer number `r` of a device: the one `1 + r` places on. -/
def peer (c : Dev nD) (r : Fin 15) : Dev nD := ⟨(c.val + 1 + r.val) % 16, Nat.mod_lt _ (by decide)⟩
/-- The number under which `s` counts the device `c` as a peer. -/
def ix (c s : Dev nD) : Fin 15 := ⟨(c.val + 15 - s.val) % 16 % 15, Nat.mod_lt _ (by decide)⟩
/-- The group whose rows are used in round `j`. -/
def grp (c : Dev nD) (j : Fin 4) : Fin 4 := ⟨(c.val / 4 + j.val) % 4, Nat.mod_lt _ (by decide)⟩
/-- The device whose rows are number `s` of round `j`. -/
def src (c : Dev nD) (j s : Fin 4) : Dev nD :=
  ⟨4 * (grp c j).val + s.val, by have := (grp c j).isLt; have := s.isLt; show _ < 16; omega⟩

theorem peer_rev : ∀ (c : Dev nD) (r : Fin 15), peer (peer c r.rev) r = c := by decide +kernel
theorem rev_peer : ∀ (c : Dev nD) (r : Fin 15), peer (peer c r) r.rev = c := by decide +kernel
theorem peer_ix : ∀ c s : Dev nD, s ≠ c → peer s (ix c s) = c := by decide +kernel
theorem peer_rev_ix : ∀ c s : Dev nD, s ≠ c → peer c (ix c s).rev = s := by decide +kernel
theorem ix_peer_rev : ∀ (c : Dev nD) (r : Fin 15), ix c (peer c r.rev) = r := by decide +kernel
theorem peer_ne : ∀ (c : Dev nD) (r : Fin 15), peer c r ≠ c := by decide +kernel
theorem peer_inj : ∀ (r : Fin 15) (c c' : Dev nD), peer c r = peer c' r → c = c' := by decide +kernel
theorem peer_inj_right : ∀ (c : Dev nD) (r r' : Fin 15), peer c r = peer c r' → r = r' := by
  decide +kernel

theorem sigDev_eq : ∀ (r : Fin 15) (c : Dev nD), sigDev r c = peer c r := by decide +kernel
theorem sendDev_eq : ∀ (r : Fin 15) (c : Dev nD), sendDev r c = peer c r := by decide +kernel
theorem amaxDev_eq : ∀ (r : Fin 15) (c : Dev nD), amaxDev r c = peer c r := by decide +kernel

/-! ## The conditions and offsets -/

theorem wCond_iff : ∀ (c : Dev nD) (j g : Fin 4), wCond c j g = 1#1 ↔ g = grp c j := by
  decide +kernel
theorem rCond_iff : ∀ (c : Dev nD) (j s : Fin 4), rCond c j s = 1#1 ↔ src c j s ≠ c := by
  decide +kernel
theorem rSem_eq : ∀ (c : Dev nD) (j s : Fin 4), src c j s ≠ c →
    rSem c j s = ![1 + (ix c (src c j s)).val] := by decide +kernel
theorem rCol_eq : ∀ (c : Dev nD) (j s : Fin 4), rCol c j s = k0_off2 (src c j s) := by
  decide +kernel
theorem off1_eq (c : Dev nD) (r : Fin 15) :
    k0_off1 c (BitVec.ofNat 32 (1 + r.val)) = k0_off3 (peer c r) := by
  revert c r; decide +kernel
theorem off4_eq (c : Dev nD) : k0_off4 c = k0_off2 c := (k0_off4_eq c).trans (k0_off2_eq c).symm
theorem off13_eq : ∀ (c : Dev nD) (j : Fin 4),
    k0_off13 c (BitVec.ofNat 32 j.val) = ![0, 1024 * (grp c j).val] := by decide +kernel

/-! ## The columns of the gathered rows and of the product -/

/-- Contents of a buffer of 256 rows put together from sixteen column blocks. -/
def ofCols {α : Type} (v : Dev nD → S256x256.Idx → α) : S256x4096.Idx → α := fun i =>
  v ⟨(i 1).val / 256, by have : (i 1).val < 4096 := (i 1).isLt; show _ < 16; omega⟩
    (fun a => match a with
      | ⟨0, _⟩ => ⟨(i 0).val, (i 0).isLt⟩
      | ⟨1, _⟩ => ⟨(i 1).val % 256, Nat.mod_lt _ (by decide)⟩)

/-- Contents of a buffer of 256 rows put together from four column tiles. -/
def ofTiles {α : Type} (v : Fin 4 → S256x2048.Idx → α) : S256x8192.Idx → α := fun i =>
  v ⟨(i 1).val / 2048, by have : (i 1).val < 8192 := (i 1).isLt; omega⟩
    (fun a => match a with
      | ⟨0, _⟩ => ⟨(i 0).val, (i 0).isLt⟩
      | ⟨1, _⟩ => ⟨(i 1).val % 2048, Nat.mod_lt _ (by decide)⟩)

theorem col_emb (s : Dev nD) (i : S256x256.Idx) (a : Fin 2) :
    ((xrCol s).view.emb i a).val = k0_off2 s a + (i a).val :=
  congrArg (k0_off2 s a + ·) (Nat.one_mul _)

theorem mem_col {s : Dev nD} {i : S256x4096.Idx} :
    i ∈ (xrCol s).view.set ↔ (i 1).val / 256 = s.val := by
  constructor
  · intro h
    obtain ⟨x, -, rfl⟩ := Finset.mem_map.mp h
    have h1 := col_emb s x 1
    have h2 : k0_off2 s 1 = 256 * s.val := by rw [k0_off2_eq]; rfl
    have h3 : (x 1).val < 256 := (x 1).isLt
    omega
  · intro h
    refine Finset.mem_map.mpr ⟨fun a => match a with
      | ⟨0, _⟩ => ⟨(i 0).val, (i 0).isLt⟩
      | ⟨1, _⟩ => ⟨(i 1).val % 256, Nat.mod_lt _ (by decide)⟩, Finset.mem_univ _, ?_⟩
    funext a
    apply Fin.ext
    refine (col_emb s _ a).trans ?_
    rw [k0_off2_eq]
    match a with
    | ⟨0, _⟩ => exact Nat.zero_add _
    | ⟨1, _⟩ => show 256 * s.val + (i 1).val % 256 = (i 1).val; omega

theorem col_read {s : Dev nD} (v : Dev nD → S256x256.Idx → Elt F .bf16) :
    (xrCol s).view.read (Elt F) (ofCols v) = v s := by
  funext i
  have h1 := col_emb s i 1
  have h0 := col_emb s i 0
  rw [k0_off2_eq] at h1 h0
  have h1' : ((xrCol s).view.emb i 1).val = 256 * s.val + (i 1).val := h1
  have h0' : ((xrCol s).view.emb i 0).val = 0 + (i 0).val := h0
  have h3 : (i 1).val < 256 := (i 1).isLt
  show v _ _ = v s i
  congr 1
  · apply Fin.ext; show ((xrCol s).view.emb i 1).val / 256 = s.val; omega
  · funext a
    match a with
    | ⟨0, _⟩ => apply Fin.ext; show ((xrCol s).view.emb i 0).val = (i 0).val; omega
    | ⟨1, _⟩ => apply Fin.ext; show ((xrCol s).view.emb i 1).val % 256 = (i 1).val; omega

theorem tile_emb (q : Fin 4) (i : S256x2048.Idx) (a : Fin 2) :
    ((yM.access (yRect q)).emb i a).val = (![0, q.val * 2048] : Fin 2 → Nat) a + (i a).val :=
  congrArg ((![0, q.val * 2048] : Fin 2 → Nat) a + ·) (Nat.one_mul _)

theorem tile_ext {α : Type} (f : S256x8192.Idx → α) (v : Fin 4 → S256x2048.Idx → α)
    (h : ∀ (q : Fin 4) (i : S256x2048.Idx), f ((yM.access (yRect q)).emb i) = v q i) :
    f = ofTiles v := by
  funext i
  have hi : (i 1).val < 8192 := (i 1).isLt
  refine Eq.trans ?_ (h ⟨(i 1).val / 2048, by omega⟩ (fun a => match a with
      | ⟨0, _⟩ => ⟨(i 0).val, (i 0).isLt⟩
      | ⟨1, _⟩ => ⟨(i 1).val % 2048, Nat.mod_lt _ (by decide)⟩))
  congr 1
  funext a
  apply Fin.ext
  refine Eq.trans ?_ (tile_emb _ _ a).symm
  match a with
  | ⟨0, _⟩ => exact (Nat.zero_add _).symm
  | ⟨1, _⟩ => show (i 1).val = (i 1).val / 2048 * 2048 + (i 1).val % 2048; omega

theorem tile_disj {q q' : Fin 4} (h : q ≠ q') (i i' : S256x2048.Idx) :
    (yM.access (yRect q)).emb i ≠ (yM.access (yRect q')).emb i' := by
  intro e
  have e1 := congrArg (fun x : S256x8192.Idx => (x 1).val) e
  have h1 := tile_emb q i 1
  have h2 := tile_emb q' i' 1
  have e2 : q.val * 2048 + (i 1).val = q'.val * 2048 + (i' 1).val := h1.symm.trans (e1.trans h2)
  have b1 : (i 1).val < 2048 := (i 1).isLt
  have b2 : (i' 1).val < 2048 := (i' 1).isLt
  exact h (Fin.ext (by omega))

/-! ## Contents -/

variable (m : (ℓ : Loc nD τ sig) → Buf (Elt F) ℓ)

/-- The shard of `x` as staged on device `c`. -/
def xs (c : Dev nD) : (cc0_stg0_0 : Ref sig .tc).ty.Contents (Elt F) :=
  (win0_0.blk (0 : Fin 1)).view.read (Elt F) (m ((c : Thread nD τ).loc main_arg0))
/-- Device `c`'s copy of `w`. -/
def ws (c : Dev nD) : (main_arg1 : Ref sig .tc).ty.Contents (Elt F) :=
  m ((c : Thread nD τ).loc main_arg1)

/-- The rows that device `s` sends to device `e` (or keeps, for `e = s`), unrounded. -/
def rowsOf (s e : Dev nD) : Vec F S256x256 .f32 :=
  xM.view.readAt (Elt F)
    (Rect.unit (s := S4096x256) (k0_off3 e) S256x256.size (k0_off3_inb e)).toLoadRect (xs m s)
/-- Those rows, rounded. -/
def XB (s e : Dev nD) : S256x256.Idx → Elt F .bf16 := rowsPay (rowsOf m s e)
/-- The gathered rows of device `c` once all have arrived. -/
def XR (c : Dev nD) : S256x4096.Idx → Elt F .bf16 := ofCols fun s => XB m s c
/-- The row block of round `j`. -/
def XG (c : Dev nD) (j : Fin 4) : Vec F S256x1024 .bf16 :=
  xrM.view.readAt (Elt F)
    (Rect.unit (s := S256x4096) (k0_off13 c (BitVec.ofNat 32 j.val)) S256x1024.size
      (k0_off13_inb c j)).toLoadRect (XR m c)
/-- The tile of `w` at group `g` and columns `q`. -/
def WT (c : Dev nD) (g q : Fin 4) : S1024x2048.Idx → Elt F .f32 :=
  (wTile g q).view.read (Elt F) (ws m c)

/-- The product of a row block with a tile of `w` as it lies in `w`. -/
def dot2 (xg : Vec F S256x1024 .bf16) (w : FVec F S1024x2048 .f32) : FVec F S256x2048 .f32 :=
  matmul dot_S256x1024_S1024x2048_S256x2048_1_0_0_1_n_n none xg w
    (constant S256x2048 .f32 0x00000000#32)
/-- Tile `q` of the product after round `n`. -/
def YT (c : Dev nD) (q : Fin 4) : ℕ → FVec F S256x2048 .f32
  | 0 => shapeCast S256x2048 (dot2 (XG m c 0) (WT m c (grp c 0) q)) shapeCasts_S256x2048_S256x2048
  | n + 1 => shapeCast S256x2048
      (addf (YT c q n) (dot2 (XG m c (Fin.ofNat 4 (n + 1))) (WT m c (grp c (Fin.ofNat 4 (n + 1))) q)))
      shapeCasts_S256x2048_S256x2048
/-- The largest magnitude of device `c`'s product. -/
def lmax (c : Dev nD) : F .f32 := ownMax (YT m c 0 3) (YT m c 1 3) (YT m c 2 3) (YT m c 3 3)
/-- The running maximum after the peers of a list. -/
def gmaxOn (c : Dev nD) : List (Fin 15) → F .f32 → F .f32
  | [], a => a
  | r :: l, a => gmaxOn c l (maxStep a fun _ => lmax m (peer c r.rev))
/-- The maximum over all devices, as device `c` computes it. -/
def gmax (c : Dev nD) : F .f32 := gmaxOn m c peers (lmax m c)
/-- The result of device `c`. -/
def OUT (c : Dev nD) : S256x8192.Idx → Elt F .f32 :=
  ofTiles fun q => outPay (gmax m c) (YT m c q 3)

end Cert.KernelIdeal.Own

end
-- ==== Proof.Regions.lean ====
module

public import proofs.«01_k».proof.Proof.Contents

/-! # The buffers cut into the parts that are held apart

Each buffer that several copies write or read is cut into the parts they use; what each part reads
as after a store or a copy is stated here, and the parts are put back together at the end. -/

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's rounds. -/
abbrev UB : Type := URounds (GSem nD τ sig) (Fin 15)
/-- The pipeline's rounds, the protocol's, and the local copies' counters. -/
abbrev UU : Type := UR sig nD τ × (UB × Counters)

local notation "𝕄" => MT nD τ sig Unit (Elt F) ℕ UU ℕ

/-! ## Values read back -/

omit [FloatOps F] in
/-- Two contents that read the same through a view agree on it. -/
theorem agree_of_read {sp : Space} {s : Shape} {e : EltTy} (v : View sig .tc sp s e)
    {f g : v.ty.Contents (Elt F)} (h : v.read (Elt F) f = v.read (Elt F) g) :
    ∀ i ∈ v.set, f i = g i := by
  intro i hi
  obtain ⟨x, -, rfl⟩ := Finset.mem_map.mp hi
  have hx := congrFun h x
  rw [View.read_apply, View.read_apply] at hx
  exact (cast_inj _).mp hx

theorem sb_read (r : Fin 15) (f : (cc0_scratch0 : Ref sig .tc).ty.Contents (Elt F))
    (v : Vec F S256x256 .f32) :
    (sbSlot r).view.read (Elt F)
      ((sbM.access (sbRect r)).write (Elt F) f (sendPay v) Finset.univ) = rowsPay v := by
  have h : (sbM.access (sbRect r)).read (Elt F)
      ((sbM.access (sbRect r)).write (Elt F) f (sendPay v) Finset.univ) = sendPay v :=
    View.read_write_univ _ _
  funext i
  refine (congrFun h (Shape.reshapeEquiv _ i)).trans ?_
  show rowsPay v (Shape.reshapeEquiv _ (Shape.reshapeEquiv _ i)) = rowsPay v i
  exact congrArg (rowsPay v)
    ((Shape.reshapeEquiv_reshapeEquiv _ _ _).trans (Shape.reshapeEquiv_self _ _))

theorem own_eq (v : Vec F S256x256 .f32) : ownPay v = rowsPay v := by
  funext i
  exact congrArg (rowsPay v) (Shape.reshapeEquiv_self _ _)

theorem dot_eq (q : Fin 4) (xg : Vec F S256x1024 .bf16)
    (f : (cc0_scratch2 : Ref sig .tc).ty.Contents (Elt F)) :
    dotPay xg (wbM.view.readAt (Elt F) (wbRect q).toLoadRect f)
      = dot2 xg ((wbSlot q).view.read (Elt F) f) := rfl

omit [FloatOps F] in
theorem ac_read (r : Fin 15) (a : F .f32) :
    acM.view.readAt (Elt F) (acRect r).toLoadRect (fun _ => a) = fun _ => a := rfl

theorem spread_eq (a : F .f32) : spread a = fun _ => a := rfl

omit [FloatOps F] in
theorem y_read_same (q : Fin 4) (f : (cc0_scratch3 : Ref sig .tc).ty.Contents (Elt F))
    (v : S256x2048.Idx → Elt F .f32) :
    yM.view.readAt (Elt F) (yRect q).toLoadRect
      ((yM.access (yRect q)).write (Elt F) f v Finset.univ) = v := by
  rw [View.readAt_rect]; exact View.read_write_univ _ _

omit [FloatOps F] in
theorem y_read_other {q q' : Fin 4} (h : q' ≠ q)
    (f : (cc0_scratch3 : Ref sig .tc).ty.Contents (Elt F)) (v : S256x2048.Idx → Elt F .f32) :
    yM.view.readAt (Elt F) (yRect q').toLoadRect
      ((yM.access (yRect q)).write (Elt F) f v Finset.univ)
      = yM.view.readAt (Elt F) (yRect q').toLoadRect f := by
  rw [View.readAt_rect, View.readAt_rect]
  refine View.read_congr fun i hi => View.write_of_not_mem _ _ _ ?_
  intro hm
  obtain ⟨x, -, hx⟩ := Finset.mem_map.mp hi
  obtain ⟨y, -, hy⟩ := Finset.mem_map.mp hm
  exact tile_disj h x y (hx.trans hy.symm)

/-! ## Cutting and joining -/

section Cut

variable {ℓ : Loc nD τ sig} {I : Type} [Fintype I] [DecidableEq I]

omit [FloatOps F] in
theorem cut (K : I → Finset (Idx ℓ)) (hK : ∀ i j, i ≠ j → Disjoint (K i) (K j)) :
    (iprop(∃ f, ℓ ↦{fullShare} f) : sProp 𝕄)
      ⊢ iprop((bigSep Finset.univ fun i => iprop(∃ f, ℓ ↦[K i]{fullShare} f))
          ∗ (∃ f, ℓ ↦[Finset.univ \ Finset.univ.biUnion K]{fullShare} f)) := by
  iintro ⟨%f, H⟩
  ihave H := (pointsTo_split_subset (Finset.subset_univ (Finset.univ.biUnion K))) $$ H
  icases H with ⟨H1, H2⟩
  isplitl [H1]
  · ihave H1 := (Entails.of_eq (pointsTo_biUnion Finset.univ K (fun i _ j _ h => hK i j h))) $$ H1
    have hm : (bigSep Finset.univ fun i => (ℓ ↦[K i]{fullShare} f : sProp 𝕄))
        ⊢ bigSep Finset.univ fun i => iprop(∃ f, ℓ ↦[K i]{fullShare} f) :=
      bigSep_mono fun i _ =>
        show (ℓ ↦[K i]{fullShare} f : sProp 𝕄) ⊢ iprop(∃ f, ℓ ↦[K i]{fullShare} f) by
          iintro H; iexists f; iexact H
    iapply hm
    iexact H1
  · iexists f; iexact H2

omit [FloatOps F] in
theorem uncut [Nonempty (Buf (Elt F) ℓ)] (K : I → Finset (Idx ℓ))
    (hK : ∀ i j, i ≠ j → Disjoint (K i) (K j)) :
    (iprop((bigSep Finset.univ fun i => iprop(∃ f, ℓ ↦[K i]{fullShare} f))
        ∗ (∃ f, ℓ ↦[Finset.univ \ Finset.univ.biUnion K]{fullShare} f)) : sProp 𝕄)
      ⊢ iprop(∃ f, ℓ ↦{fullShare} f) := by
  iintro ⟨H1, ⟨%f, H2⟩⟩
  ihave H1 := (bigSep_exists_pi Finset.univ
    (fun i (f : Buf (Elt F) ℓ) => (ℓ ↦[K i]{fullShare} f : sProp 𝕄))) $$ H1
  icases H1 with ⟨%fs, H1⟩
  ihave H1 := (pointsTo_biUnion_join Finset.univ K fs f (fun i _ j _ h => hK i j h)) $$ H1
  icases H1 with ⟨%g, -, H1⟩
  iexists _
  iapply (pointsTo_join_subset (Finset.subset_univ (Finset.univ.biUnion K)))
  isplitl [H1] <;> iassumption

end Cut

theorem sb_disj (r r' : Fin 15) (h : r ≠ r') : Disjoint (sbSlot r).view.set (sbSlot r').view.set := by
  rw [Finset.disjoint_left]
  intro i hi hi'
  rw [View.set_reshape, View.set_slice_whole] at hi hi'
  obtain ⟨x, hx, e⟩ := (LoadRect.mem_set _).mp hi 0
  obtain ⟨x', hx', e'⟩ := (LoadRect.mem_set _).mp hi' 0
  have hx : x < 1 := hx
  have hx' : x' < 1 := hx'
  have e : (i 0).val = 1 + r.val + 1 * x := e
  have e' : (i 0).val = 1 + r'.val + 1 * x' := e'
  exact h (Fin.ext (by omega))
theorem ac_disj (r r' : Fin 15) (h : r ≠ r') : Disjoint (acSlot r).view.set (acSlot r').view.set := by
  rw [Finset.disjoint_left]
  intro i hi hi'
  rw [View.set_reshape, View.set_slice_whole] at hi hi'
  obtain ⟨x, hx, e⟩ := (LoadRect.mem_set _).mp hi 0
  obtain ⟨x', hx', e'⟩ := (LoadRect.mem_set _).mp hi' 0
  have hx : x < 1 := hx
  have hx' : x' < 1 := hx'
  have e : (i 0).val = 1 + r.val + 1 * x := e
  have e' : (i 0).val = 1 + r'.val + 1 * x' := e'
  exact h (Fin.ext (by omega))
/-- The two slots for tiles of `w`, by the first tile that uses each. -/
abbrev slotTile (p : Fin 2) : Fin 4 := ⟨p.val, by omega⟩
theorem wb_disj (p p' : Fin 2) (h : p ≠ p') :
    Disjoint (wbSlot (slotTile p)).view.set (wbSlot (slotTile p')).view.set := by
  rw [Finset.disjoint_left]
  intro i hi hi'
  rw [View.set_reshape, View.set_slice_whole] at hi hi'
  obtain ⟨x, hx, e⟩ := (LoadRect.mem_set _).mp hi 0
  obtain ⟨x', hx', e'⟩ := (LoadRect.mem_set _).mp hi' 0
  have hx : x < 1 := hx
  have hx' : x' < 1 := hx'
  have e : (i 0).val = p.val % 2 + 1 * x := e
  have e' : (i 0).val = p'.val % 2 + 1 * x' := e'
  exact h (Fin.ext (by omega))
theorem xr_disj (s s' : Dev nD) (h : s ≠ s') : Disjoint (xrCol s).view.set (xrCol s').view.set := by
  rw [Finset.disjoint_left]
  intro i hi hi'
  exact h (Fin.ext ((mem_col.mp hi).symm.trans (mem_col.mp hi')))
theorem xr_cover : (Finset.univ.biUnion fun s : Dev nD => (xrCol s).view.set)
    = (Finset.univ : Finset S256x4096.Idx) := by
  ext i
  have : (i 1).val < 4096 := (i 1).isLt
  simp only [Finset.mem_univ, iff_true, Finset.mem_biUnion, true_and]
  exact ⟨⟨(i 1).val / 256, by show _ < 16; omega⟩, mem_col.mpr rfl⟩

end Cert.KernelIdeal.Own

end
-- ==== Proof.Schedule.lean ====
module

public import proofs.«01_k».proof.Proof.Regions

/-! # The protocol

Every device owns, besides its barrier cell, four cells per peer: the rows it sends have left, the
rows it receives have landed, its maximum has left, a peer's maximum has landed. Each cell has one
round. At the barrier every peer pays one unit and hands over the column block of its gathered rows
and the slot of its maxima that the owner will copy into; each of the other cells is paid once, by
the copy it belongs to. -/

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Where the pipeline's rounds lie in the algebra. -/
abbrev EP : Emb (UR sig nD τ) (MT nD τ sig Unit (Elt F) ℕ UU ℕ) := embL
/-- Where the protocol's rounds lie in the algebra. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU)
      (Lvl := ℕ)).toEmb
instance ER_landsIn : (ER : Emb UB 𝕄).LandsIn (upEmb : UEmb _ 𝕄) := by unfold ER; infer_instance

/-! ## The cells -/

abbrev barCell (c : Dev nD) : GSem nD τ sig := ((c : Thread nD τ), .reg barS)
abbrev sentCell (c : Dev nD) (r : Fin 15) : GSem nD τ sig :=
  ((c : Thread nD τ), .dma (semAt cc0_scratch6 r))
abbrev rowCell (c : Dev nD) (r : Fin 15) : GSem nD τ sig :=
  ((c : Thread nD τ), .dma (semAt cc0_scratch7 r))
abbrev mSentCell (c : Dev nD) (r : Fin 15) : GSem nD τ sig :=
  ((c : Thread nD τ), .dma (semAt cc0_scratch8 r))
abbrev maxCell (c : Dev nD) (r : Fin 15) : GSem nD τ sig :=
  ((c : Thread nD τ), .dma (semAt cc0_scratch9 r))

/-- The kinds of cell a device owns: the barrier's, and four families of fifteen. -/
abbrev CK : Type := Unit ⊕ (Fin 4 × Fin 15)

/-- The semaphore of a kind of cell. -/
def csem : CK → SemLoc sig
  | .inl _ => .reg barS
  | .inr (⟨0, _⟩, r) => .dma (semAt cc0_scratch6 r)
  | .inr (⟨1, _⟩, r) => .dma (semAt cc0_scratch7 r)
  | .inr (⟨2, _⟩, r) => .dma (semAt cc0_scratch8 r)
  | .inr (⟨3, _⟩, r) => .dma (semAt cc0_scratch9 r)

theorem csem_inj : Function.Injective csem := by
  have h : ∀ k k' : CK, csem k = csem k' → k = k' := by decide +kernel
  exact fun k k' => h k k'

/-- The kind of cell a semaphore is, if any. -/
def kindOf : SemLoc sig → Option CK := Function.partialInv csem
theorem kindOf_csem (k : CK) : kindOf (csem k) = some k := Function.partialInv_left csem_inj k

theorem kind_bar : kindOf (.reg barS) = some (.inl ()) := kindOf_csem (.inl ())
theorem kind_sent (r : Fin 15) : kindOf (.dma (semAt cc0_scratch6 r)) = some (.inr (0, r)) :=
  kindOf_csem (.inr (0, r))
theorem kind_row (r : Fin 15) : kindOf (.dma (semAt cc0_scratch7 r)) = some (.inr (1, r)) :=
  kindOf_csem (.inr (1, r))
theorem kind_mSent (r : Fin 15) : kindOf (.dma (semAt cc0_scratch8 r)) = some (.inr (2, r)) :=
  kindOf_csem (.inr (2, r))
theorem kind_max (r : Fin 15) : kindOf (.dma (semAt cc0_scratch9 r)) = some (.inr (3, r)) :=
  kindOf_csem (.inr (3, r))
theorem kind_none {sm : SemLoc sig} (h : ∀ k, csem k ≠ sm) : kindOf sm = none := by
  unfold kindOf Function.partialInv
  rw [dif_neg]
  rintro ⟨k, hk⟩
  exact h k hk

/-- The credit of one block of rows. -/
def NX : ℕ := (xrCol 0).view.dmaCredit
/-- The credit of one tile holding a maximum. -/
def NM : ℕ := (acSlot 0).view.dmaCredit
theorem NX_pos : 0 < NX := View.dmaCredit_pos _ (by decide)
theorem NM_pos : 0 < NM := View.dmaCredit_pos _ (by decide)
theorem credit_sb (r : Fin 15) : (sbSlot r).view.dmaCredit = NX := by rfl
theorem credit_xr (s : Dev nD) : (xrCol s).view.dmaCredit = NX := by rfl
theorem credit_ac (r : Fin 15) : (acSlot r).view.dmaCredit = NM := by rfl
theorem credit_ab : abM.view.dmaCredit = NM := by rfl

/-! ## What is handed over -/

variable (m : (ℓ : Loc nD τ sig) → Buf (Elt F) ℓ)

/-- Device `c`'s slot `1 + r` of the send buffer. -/
def sbPts (c : Dev nD) (r : Fin 15) : sProp 𝕄 :=
  iprop(∃ f, (sbSlot r).view.loc (c : Thread nD τ) ↦[(sbSlot r).view.set]{fullShare} f)
/-- Device `c`'s column block `s` of the gathered rows, whatever it holds. -/
def xrAny (c s : Dev nD) : sProp 𝕄 :=
  iprop(∃ f, (xrCol s).view.loc (c : Thread nD τ) ↦[(xrCol s).view.set]{fullShare} f)
/-- Device `c`'s slot `1 + r` of the peers' maxima, whatever it holds. -/
def acAny (c : Dev nD) (r : Fin 15) : sProp 𝕄 :=
  iprop(∃ f, (acSlot r).view.loc (c : Thread nD τ) ↦[(acSlot r).view.set]{fullShare} f)
/-- Device `c`'s column block `s` of the gathered rows, holding `s`'s rows. -/
def xrPts (c s : Dev nD) : sProp 𝕄 :=
  (xrCol s).view.loc (c : Thread nD τ) ↦[(xrCol s).view.set]{fullShare} XR m c
/-- One fifteenth of device `c`'s own maximum. -/
def abTok (c : Dev nD) (r : Fin 15) : sProp 𝕄 :=
  abM.view.loc (c : Thread nD τ) ↦[abM.view.set]{Transfers.shareTok fullShare 15 r} (fun _ => lmax m c)
/-- Device `c`'s slot `1 + r` of the peers' maxima, holding that peer's maximum. -/
def acPts (c : Dev nD) (r : Fin 15) : sProp 𝕄 :=
  (acSlot r).view.loc (c : Thread nD τ) ↦[(acSlot r).view.set]{fullShare}
    (fun _ => lmax m (peer c r.rev))
/-- What the peer that counts `e` as its peer `r` hands to `e` at the barrier. -/
def barPay (e : Dev nD) (r : Fin 15) : sProp 𝕄 :=
  iprop(xrAny (peer e r.rev) e ∗ acAny (peer e r.rev) r.rev)

/-- What a cell's one round hands to its owner. -/
def payOf (c : Dev nD) : CK → Fin 15 → sProp 𝕄
  | .inl _, r => barPay c r
  | .inr (⟨0, _⟩, r), _ => sbPts c r
  | .inr (⟨1, _⟩, r), _ => xrPts m c (peer c r.rev)
  | .inr (⟨2, _⟩, r), _ => abTok m c r
  | .inr (⟨3, _⟩, r), _ => acPts m c r

/-- The units of a duty. -/
def amountOf : CK → ℕ
  | .inl _ => 1
  | .inr (⟨0, _⟩, _) => NX
  | .inr (⟨1, _⟩, _) => NX
  | .inr (⟨2, _⟩, _) => NM
  | .inr (⟨3, _⟩, _) => NM

theorem amountOf_pos : ∀ k : CK, 0 < amountOf k
  | .inl _ => Nat.one_pos
  | .inr (⟨0, _⟩, _) => NX_pos
  | .inr (⟨1, _⟩, _) => NX_pos
  | .inr (⟨2, _⟩, _) => NM_pos
  | .inr (⟨3, _⟩, _) => NM_pos

/-- The duties of a cell's one round. -/
def dutiesOf : CK → Finset (Fin 15)
  | .inl _ => Finset.univ
  | .inr _ => {0}

instance xrAny_storable (c s : Dev nD) : BI.Storable (upEmb : UEmb _ 𝕄) (xrAny c s) := by
  unfold xrAny; infer_instance
instance acAny_storable (c : Dev nD) (r : Fin 15) : BI.Storable (upEmb : UEmb _ 𝕄) (acAny c r) := by
  unfold acAny; infer_instance

instance payOf_storable (c : Dev nD) (k : CK) (d : Fin 15) :
    BI.Storable (upEmb : UEmb _ 𝕄) (payOf m c k d) := by
  match k with
  | .inl _ => show BI.Storable upEmb (barPay c d); unfold barPay; infer_instance
  | .inr (⟨0, _⟩, r) => show BI.Storable upEmb (sbPts c r); unfold sbPts; infer_instance
  | .inr (⟨1, _⟩, r) => show BI.Storable upEmb (xrPts m c _); unfold xrPts; infer_instance
  | .inr (⟨2, _⟩, r) => show BI.Storable upEmb (abTok m c r); unfold abTok; infer_instance
  | .inr (⟨3, _⟩, r) => show BI.Storable upEmb (acPts m c r); unfold acPts; infer_instance

/-- The protocol. -/
def Rd : Rounds.Schedule (GSem nD τ sig) (Fin 15) 𝕄 where
  duties g n := if n = 0 then (match kindOf g.2 with | some k => dutiesOf k | none => ∅) else ∅
  unitless _ := False
  amount g _ _ := match kindOf g.2 with | some k => amountOf k | none => 1
  payload g _ d := match kindOf g.2 with | some k => payOf m g.1.1 k d | none => iprop(emp)
  amount_pos g _ _ _ := by
    show 0 < (match kindOf g.2 with | some k => amountOf k | none => 1)
    split
    · exact amountOf_pos _
    · exact Nat.one_pos

instance Rd_storable (g : GSem nD τ sig) (n : ℕ) (d : Fin 15) :
    BI.Storable (upEmb : UEmb _ 𝕄) ((Rd m).payload g n d) := by
  show BI.Storable upEmb (match kindOf g.2 with | some k => payOf m g.1.1 k d | none => iprop(emp))
  split <;> infer_instance

section Tables

variable (c : Dev nD) {sm : SemLoc sig} {k : CK}

theorem duties_of (h : kindOf sm = some k) :
    (Rd m).duties ((c : Thread nD τ), sm) 0 = dutiesOf k := by
  show (if 0 = 0 then (match kindOf sm with | some k => dutiesOf k | none => ∅) else ∅) = _
  rw [if_pos rfl, h]
theorem amount_of (h : kindOf sm = some k) (d : Fin 15) :
    (Rd m).amount ((c : Thread nD τ), sm) 0 d = amountOf k := by
  show (match kindOf sm with | some k => amountOf k | none => 1) = _
  rw [h]
theorem payload_of (h : kindOf sm = some k) (d : Fin 15) :
    (Rd m).payload ((c : Thread nD τ), sm) 0 d = payOf m c k d := by
  show (match kindOf sm with | some k => payOf m c k d | none => iprop(emp)) = _
  rw [h]
theorem duties_later (g : GSem nD τ sig) : ∀ n, 1 ≤ n → (Rd m).duties g n = ∅ := fun n hn => by
  show (if n = 0 then _ else ∅) = _
  rw [if_neg (by omega)]
theorem expect_bar : (Rd m).expect (barCell c) 0 = 15 := by
  unfold Schedule.expect Schedule.amountOf
  rw [duties_of m c kind_bar, Finset.sum_congr rfl fun d _ => amount_of m c kind_bar d]
  rfl
theorem expect_one {f : Fin 4 × Fin 15} (h : kindOf sm = some (.inr f)) :
    (Rd m).expect ((c : Thread nD τ), sm) 0 = amountOf (.inr f) := by
  unfold Schedule.expect Schedule.amountOf
  rw [duties_of m c h]
  exact (Finset.sum_singleton _ _).trans (amount_of m c h 0)
theorem rest_bar : bigSep ((Rd m).duties (barCell c) 0 \ ∅)
    (fun d => (Rd m).payload (barCell c) 0 d) = bigSep Finset.univ fun d => barPay (F := F) c d := by
  rw [Finset.sdiff_empty, duties_of m c kind_bar]
  exact bigSep_congr fun d _ => payload_of m c kind_bar d
theorem rest_one {f : Fin 4 × Fin 15} (h : kindOf sm = some (.inr f)) :
    bigSep ((Rd m).duties ((c : Thread nD τ), sm) 0 \ ∅)
      (fun d => (Rd m).payload ((c : Thread nD τ), sm) 0 d) = payOf m c (.inr f) 0 := by
  rw [Finset.sdiff_empty, duties_of m c h]
  exact bigSep_singleton.trans (payload_of m c h 0)
theorem mem_bar (d : Fin 15) : d ∈ (Rd m).duties (barCell c) 0 := by
  rw [duties_of m c kind_bar]; exact Finset.mem_univ _
theorem mem_one {f : Fin 4 × Fin 15} (h : kindOf sm = some (.inr f)) :
    (0 : Fin 15) ∈ (Rd m).duties ((c : Thread nD τ), sm) 0 := by
  rw [duties_of m c h]; exact Finset.mem_singleton_self _

end Tables

/-! ## What a device owes, and the levels -/

/-- What device `c` owes its peer `r`'s barrier. -/
def dueB (c : Dev nD) (r : Fin 15) : CellTallies nD τ sig Unit := tallyAt (barCell (peer c r)) () 1
/-- What device `c` owes its peer `r` in rows. -/
def dueX (c : Dev nD) (r : Fin 15) : CellTallies nD τ sig Unit := tallyAt (rowCell (peer c r) r) () NX
/-- What device `c` owes its peer `r` in maxima. -/
def dueM (c : Dev nD) (r : Fin 15) : CellTallies nD τ sig Unit := tallyAt (maxCell (peer c r) r) () NM
/-- The dues to a list of peers. -/
def dues (f : Fin 15 → CellTallies nD τ sig Unit) : List (Fin 15) → CellTallies nD τ sig Unit
  | [] => 0
  | r :: l => dues f l + f r

/-- What a device owes after the barrier and the rows are sent, after the barrier, and at launch. -/
def OM (c : Dev nD) : CellTallies nD τ sig Unit := dues (dueM c) peers
def OX (c : Dev nD) : CellTallies nD τ sig Unit := OM c + dues (dueX c) peers
def O₀ (c : Dev nD) : CellTallies nD τ sig Unit := OX c + dues (dueB c) peers

/-- The one index of every TensorCore cell. -/
def L (g : GSem nD τ sig) : Finset Unit := if g.1.2 = .tc then {()} else ∅
/-- The level of a kind of cell. -/
def lvOf : CK → ℕ
  | .inl _ => 1
  | .inr (⟨1, _⟩, _) => 2
  | .inr (⟨3, _⟩, _) => 3
  | .inr _ => 0
/-- The levels: a wait is allowed below everything the waiter still owes. -/
def lv (g : GSem nD τ sig) (_ : Unit) : ℕ :=
  match kindOf g.2 with | some k => lvOf k | none => 0

theorem L_of_ne (g : GSem nD τ sig) (h : g.1.2 ≠ .tc) : L g = ∅ := if_neg h
theorem L_tc (c : Dev nD) (sm : SemLoc sig) : L ((c : Thread nD τ), sm) = {()} := if_pos rfl

/-- Everything owed lies above a level. -/
def Above (n : ℕ) (O : CellTallies nD τ sig Unit) : Prop :=
  ∀ g u, 0 < O g u → g.1.2 = .tc ∧ n < lv g u

theorem above_zero (n : ℕ) : Above n 0 := fun _ _ h => absurd h (Nat.lt_irrefl 0)
theorem above_add {n : ℕ} {O O' : CellTallies nD τ sig Unit} (h : Above n O) (h' : Above n O') :
    Above n (O + O') := fun g u hg => by
  rw [Pi.add_apply, Finsupp.add_apply] at hg
  rcases Nat.add_pos_iff_pos_or_pos.mp hg with hg | hg
  · exact h g u hg
  · exact h' g u hg
theorem above_tally {n N : ℕ} {e : Dev nD} {sm : SemLoc sig} {k : CK} (hk : kindOf sm = some k)
    (hn : n < lvOf k) : Above n (tallyAt ((e : Thread nD τ), sm) () N) := fun g u hg => by
  rw [tallyAt_apply] at hg
  by_cases h : g = ((e : Thread nD τ), sm) ∧ u = ()
  · rw [h.1]
    refine ⟨rfl, ?_⟩
    show n < (match kindOf sm with | some k => lvOf k | none => 0)
    rw [hk]; exact hn
  · rw [if_neg h] at hg; exact absurd hg (Nat.lt_irrefl 0)
theorem above_dues {n : ℕ} {f : Fin 15 → CellTallies nD τ sig Unit} (h : ∀ r, Above n (f r))
    (l : List (Fin 15)) : Above n (dues f l) := by
  induction l with
  | nil => exact above_zero n
  | cons r l ih => exact above_add ih (h r)
theorem above_OM (c : Dev nD) : Above 2 (OM c) :=
  above_dues (fun r => above_tally (kind_max r) (Nat.lt_succ_self 2)) _
theorem Above.mono {n n' : ℕ} {O : CellTallies nD τ sig Unit} (h : Above n O) (hn : n' ≤ n) :
    Above n' O := fun g u hg => ⟨(h g u hg).1, Nat.lt_of_le_of_lt hn (h g u hg).2⟩
theorem above_OX (c : Dev nD) : Above 1 (OX c) :=
  above_add ((above_OM c).mono (by decide))
    (above_dues (fun r => above_tally (kind_row r) (Nat.lt_succ_self 1)) _)
theorem above_O₀ (c : Dev nD) : Above 0 (O₀ c) :=
  above_add ((above_OX c).mono (by decide))
    (above_dues (fun r => above_tally kind_bar (Nat.lt_succ_self 0)) _)

omit [FloatOps F] in
theorem mayWait {n : ℕ} (c : Dev nD) (sm : SemLoc sig) (hn : lv ((c : Thread nD τ), sm) () ≤ n)
    {O : CellTallies nD τ sig Unit} (hO : Above n O) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by
      unfold L; rw [if_pos (hO g u hg).1]; exact Finset.mem_singleton_self _)
    (fun p hp => by rw [Finset.mem_singleton.mp hp]; exact hn)
    (fun g u hg => (hO g u hg).2)

theorem lv_of {c : Dev nD} {sm : SemLoc sig} {k : CK} (hk : kindOf sm = some k) :
    lv ((c : Thread nD τ), sm) () = lvOf k := by
  show (match kindOf sm with | some k => lvOf k | none => 0) = _
  rw [hk]
theorem lv_none {c : Dev nD} {sm : SemLoc sig} (hk : kindOf sm = none) :
    lv ((c : Thread nD τ), sm) () = 0 := by
  show (match kindOf sm with | some k => lvOf k | none => 0) = _
  rw [hk]

end Cert.KernelIdeal.Own

end
-- ==== Proof.Steps.lean ====
module

public import proofs.«01_k».proof.Proof.Schedule

/-! # The steps of the protocol

One rule for each kind of step the body repeats over its peers: signal a barrier, send rows, send
the maximum, and wait for what was sent and for what arrives. -/

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No variants. -/
abbrev 𝒱₀ : Variants := Variants.none

/-- Device `c` runs `K` to a state where `Q` holds. -/
abbrev runs (c : Dev nD) (K : Body F) (Q : PUnit → sProp 𝕄) : sProp 𝕄 :=
  wp frame (wpE (defs₀ (F := F)) 𝒱₀ (c : Thread nD τ) none) Set.univ K Q

/-! ## Separating conjunctions over a list of peers -/

/-- `Φ` of every peer of a list. -/
def sepL (Φ : Fin 15 → sProp 𝕄) : List (Fin 15) → sProp 𝕄
  | [] => iprop(emp)
  | r :: l => iprop(Φ r ∗ sepL Φ l)

omit [FloatOps F] in
theorem sepL_eq (Φ : Fin 15 → sProp 𝕄) : ∀ l : List (Fin 15), l.Nodup → sepL Φ l = bigSep l.toFinset Φ
  | [], _ => bigSep_empty.symm
  | r :: l, h => by
    rw [List.toFinset_cons, bigSep_insert (by
      rw [List.mem_toFinset]; exact (List.nodup_cons.mp h).1), ← sepL_eq Φ l (List.nodup_cons.mp h).2]
    rfl
omit [FloatOps F] in
theorem sepL_peers (Φ : Fin 15 → sProp 𝕄) : sepL Φ peers = bigSep Finset.univ Φ := by
  rw [sepL_eq Φ peers (by decide)]
  congr 1

/-! ## What every device knows -/

variable (m : (ℓ : Loc nD τ sig) → Buf (Elt F) ℓ)

/-- A device's cell of some kind. -/
def kcell (ck : Dev nD × CK) : GSem nD τ sig := ((ck.1 : Thread nD τ), csem ck.2)

/-- Every cell's invariant, that its round 0 is reached, and the levels. -/
def env (N : Dev nD × CK → ℕ) : sProp 𝕄 :=
  iprop((bigSep Finset.univ fun ck : Dev nD × CK => cellInv ER (Rd m) (N ck) (kcell ck))
    ∗ (bigSep Finset.univ fun ck : Dev nD × CK => reached ER (kcell ck) 0) ∗ levAts L lv)

instance env_persistent (N : Dev nD × CK → ℕ) : BI.Persistent (env m N) := by
  unfold env; infer_instance

variable (N : Dev nD × CK → ℕ)

omit [FloatOps F] in
theorem reached_at (ck : Dev nD × CK) :
    (bigSep Finset.univ fun ck : Dev nD × CK => (reached ER (kcell ck) 0 : sProp 𝕄))
      ⊢ reached ER (kcell ck) 0 := bigSep_elim (Finset.mem_univ ck)
theorem inv_at (ck : Dev nD × CK) :
    (bigSep Finset.univ fun ck : Dev nD × CK => (cellInv ER (Rd m) (N ck) (kcell ck) : sProp 𝕄))
      ⊢ cellInv ER (Rd m) (N ck) (kcell ck) := bigSep_elim (Finset.mem_univ ck)
theorem env_inv (c : Dev nD) (k : CK) {sm : SemLoc sig} (h : csem k = sm) :
    env m N ⊢ cellInv ER (Rd m) (N (c, k)) ((c : Thread nD τ), sm) := by
  subst h
  unfold env
  iintro ⟨H, -⟩
  iapply (inv_at m N (c, k))
  iexact H
theorem env_reached (c : Dev nD) (k : CK) {sm : SemLoc sig} (h : csem k = sm) :
    env m N ⊢ reached ER ((c : Thread nD τ), sm) 0 := by
  subst h
  unfold env
  iintro ⟨-, H, -⟩
  iapply (reached_at (F := F) (c, k))
  iexact H
theorem env_wait (c : Dev nD) {sm : SemLoc sig} {n : ℕ} (hn : lv ((c : Thread nD τ), sm) () ≤ n)
    {O : CellTallies nD τ sig Unit} (hO : Above n O) :
    env m N ⊢ MayWait (c : Thread nD τ) sm () O := by
  unfold env
  iintro ⟨-, -, H⟩
  iapply (mayWait (F := F) c sm hn hO)
  iexact H

/-- What device `c` still owes, whatever it has waited for. -/
def ow (c : Dev nD) (O : CellTallies nD τ sig Unit) : sProp 𝕄 :=
  iprop(∃ W, owes (c : Thread nD τ) O W)

/-! ## The entry barrier -/

/-- What a signal to peer `r` takes. -/
def sigRes (c : Dev nD) (r : Fin 15) : sProp 𝕄 :=
  iprop(dutyTok ER (barCell (peer c r)) 0 r ∗ xrAny c (peer c r) ∗ acAny c r.rev)

theorem signals_runs (c : Dev nD) (O : CellTallies nD τ sig Unit) (K : Body F) (Q : PUnit → sProp 𝕄) :
    ∀ l : List (Fin 15),
    iprop(env m N ∗ ow c (O + dues (dueB c) l) ∗ sepL (sigRes c) l)
      ⊢ iprop((ow c O -∗ runs c K Q) -∗ runs c (signals c l K) Q)
  | [] => by
    rw [show O + dues (dueB c) [] = O from add_zero O]
    iintro ⟨-, Ho, -⟩ Hk
    iapply Hk
    iexact Ho
  | r :: l => by
    unfold signals ow
    rw [sigDev_eq r c]
    show iprop(env m N ∗ (∃ W, owes (c : Thread nD τ) (O + (dues (dueB c) l + dueB c r)) W)
      ∗ (sigRes c r ∗ sepL (sigRes c) l)) ⊢ _
    iintro ⟨#He, ⟨%W, Ho⟩, Hr, Hl⟩ Hk
    unfold sigRes
    icases Hr with ⟨Ht, Hx, Ha⟩
    iapply (Rounds.wp_signal 𝒱₀ ER (Rd m) (c : Thread nD τ) none (dst := (peer c r : Thread nD τ))
      (κ := N (peer c r, .inl ())) (d := r) (mem_bar m (peer c r) r)
      (amount_of m (peer c r) kind_bar r) () (O + dues (dueB c) l) (add_assoc _ _ _).symm)
      $$ [Ho Ht Hx Ha]
    · isplitr; · iapply (env_inv m N (peer c r) (.inl ()) rfl); iexact He
      isplitl [Ho]; · iexact Ho
      isplitl [Ht]; · iexact Ht
      isplitl [Hx Ha]
      · rw [payload_of m (peer c r) kind_bar r,
          show payOf m (peer c r) (.inl ()) r = barPay (peer c r) r from rfl]
        unfold barPay
        rw [rev_peer]
        isplitl [Hx] <;> iassumption
      · iapply (env_reached m N (peer c r) (.inl ()) rfl); iexact He
    iintro Ho
    ihave Hi := (signals_runs c O K Q l) $$ [Ho Hl]
    · isplitr; · iexact He
      isplitl [Ho]
      · unfold ow; iexists W; iexact Ho
      · iexact Hl
    iapply Hi
    unfold ow
    iexact Hk

theorem barrier_runs (c : Dev nD) {O : CellTallies nD τ sig Unit} (hO : Above 1 O)
    (K : PUnit → Body F) (Q : PUnit → sProp 𝕄) :
    iprop(env m N ∗ ow c O ∗ cred (tallyAt (barCell c) () 15) ∗ atPos ER (barCell c) 0 ∅ 0)
      ⊢ iprop((ow c O ∗ semVal (barCell c) 0 ∗ (bigSep Finset.univ fun r => barPay c r)
          -∗ runs c (K ⟨⟩) Q) -∗ runs c (.op (.semWait barS 15) K) Q) := by
  unfold ow
  iintro ⟨#He, ⟨%W, Ho⟩, Hc, Hat⟩ Hk
  iapply (Rounds.wp_wait_rest_token 𝒱₀ ER (Rd m) (c : Thread nD τ) none (κ := N (c, .inl ()))
    (wpE_semWait_eq 𝒱₀ (c : Thread nD τ) none Set.univ) (Set.mem_univ _) () (O := O) (W := W)
    (R := 0) (m := 0) (T := ∅) (by rw [expect_bar])) $$ [Hc Ho Hat]
  · isplitr; · iapply (env_inv m N c (.inl ()) rfl); iexact He
    isplitl [Hc]; · iexact Hc
    isplitl [Ho]; · iexact Ho
    isplitr
    · iapply (env_wait m N c (Nat.le_of_eq (lv_of kind_bar)) hO); iexact He
    iexact Hat
  iintro ⟨Ho, Hat, -, Hpay⟩
  ihave Hp := (Entails.of_eq (rest_bar m c)) $$ Hpay
  imod (Rounds.cell_close ER (Rd m) (Set.mem_univ (N (c, .inl ()))) (fun h => h) (R := 0 + 1)
    (duties_later m (barCell c))) $$ [Hat] with Hz
  · isplitr; · iapply (env_inv m N c (.inl ()) rfl); iexact He
    iexact Hat
  iapply Hk
  isplitl [Ho]; · iexists _; iexact Ho
  isplitl [Hz] <;> iassumption

/-! ## One wait on a cell with one duty -/

theorem wait_runs (c : Dev nD) {f : Fin 4 × Fin 15} {q : DmaSem sig} (hq : csem (.inr f) = .dma q)
    {O : CellTallies nD τ sig Unit} {n : ℕ} (hO : Above n O) (hn : lvOf (.inr f) ≤ n)
    {sp sp' : Space} {s s' : Shape} {e e' : EltTy} {srcw : Memref sig .tc sp' s' e'}
    {dstw : Memref sig .tc sp s e} {hsrc : srcw.view.WordExact} {hdst : dstw.view.WordExact}
    (hN : dstw.view.dmaCredit = amountOf (.inr f)) (K : PUnit → Body F) (Q : PUnit → sProp 𝕄) :
    iprop(env m N ∗ ow c O ∗ cred (tallyAt ((c : Thread nD τ), .dma q) () (amountOf (.inr f)))
        ∗ atPos ER ((c : Thread nD τ), .dma q) 0 ∅ 0)
      ⊢ iprop((ow c O ∗ semVal ((c : Thread nD τ), .dma q) 0 ∗ payOf m c (.inr f) 0
          -∗ runs c (K ⟨⟩) Q) -∗ runs c (.op (.waitDma2 q srcw dstw hsrc hdst) K) Q) := by
  have hk : kindOf (.dma q) = some (.inr f) := hq ▸ kindOf_csem (.inr f)
  rw [← hN]
  unfold ow
  iintro ⟨#He, ⟨%W, Ho⟩, Hc, Hat⟩ Hk
  iapply (Rounds.wp_wait_rest_token 𝒱₀ ER (Rd m) (c : Thread nD τ) none (κ := N (c, .inr f))
    (wpE_waitDma2_eq 𝒱₀ (c : Thread nD τ) none Set.univ) (Set.mem_univ _) () (O := O) (W := W)
    (R := 0) (m := 0) (T := ∅)
    (by rw [Nat.zero_add]; exact hN.trans (expect_one m c hk).symm)) $$ [Hc Ho Hat]
  · isplitr; · iapply (env_inv m N c (.inr f) hq); iexact He
    isplitl [Hc]; · iexact Hc
    isplitl [Ho]; · iexact Ho
    isplitr
    · iapply (env_wait m N c (Nat.le_trans (Nat.le_of_eq (lv_of hk)) hn) hO); iexact He
    iexact Hat
  iintro ⟨Ho, Hat, -, Hpay⟩
  ihave Hp := (Entails.of_eq (rest_one m c hk)) $$ Hpay
  imod (Rounds.cell_close ER (Rd m) (Set.mem_univ (N (c, .inr f))) (fun h => h) (R := 0 + 1)
    (duties_later m ((c : Thread nD τ), .dma q))) $$ [Hat] with Hz
  · isplitr; · iapply (env_inv m N c (.inr f) hq); iexact He
    iexact Hat
  iapply Hk
  isplitl [Ho]; · iexists _; iexact Ho
  isplitl [Hz] <;> iassumption

/-! ## The waits over the peers -/

theorem pay_sent (c : Dev nD) (r : Fin 15) : payOf m c (.inr (0, r)) 0 = sbPts c r := rfl
theorem pay_row (c : Dev nD) (r : Fin 15) :
    payOf m c (.inr (1, r)) 0 = xrPts m c (peer c r.rev) := rfl
theorem pay_mSent (c : Dev nD) (r : Fin 15) : payOf m c (.inr (2, r)) 0 = abTok m c r := rfl
theorem pay_max (c : Dev nD) (r : Fin 15) : payOf m c (.inr (3, r)) 0 = acPts m c r := rfl

/-- What the wait for the maximum from a peer takes. -/
def maxRes (c : Dev nD) (r : Fin 15) : sProp 𝕄 :=
  iprop(cred (tallyAt (maxCell c r) () NM) ∗ atPos ER (maxCell c r) 0 ∅ 0)
/-- What it leaves. -/
def maxGot (c : Dev nD) (r : Fin 15) : sProp 𝕄 :=
  iprop(acPts m c r ∗ semVal (maxCell c r) 0)
/-- What the wait for sent rows takes. -/
def sentRes (c : Dev nD) (r : Fin 15) : sProp 𝕄 :=
  iprop(cred (tallyAt (sentCell c r) () NX) ∗ atPos ER (sentCell c r) 0 ∅ 0)
/-- What it leaves. -/
def sentGot (c : Dev nD) (r : Fin 15) : sProp 𝕄 :=
  iprop(sbPts c r ∗ semVal (sentCell c r) 0)
/-- What the wait for a sent maximum takes. -/
def mSentRes (c : Dev nD) (r : Fin 15) : sProp 𝕄 :=
  iprop(cred (tallyAt (mSentCell c r) () NM) ∗ atPos ER (mSentCell c r) 0 ∅ 0)
/-- What it leaves. -/
def mSentGot (c : Dev nD) (r : Fin 15) : sProp 𝕄 :=
  iprop(abTok m c r ∗ semVal (mSentCell c r) 0)

theorem sentRows_runs (c : Dev nD) (K : Body F) (Q : PUnit → sProp 𝕄) : ∀ l : List (Fin 15),
    iprop(env m N ∗ ow c 0 ∗ sepL (sentRes c) l)
      ⊢ iprop((ow c 0 ∗ sepL (sentGot c) l -∗ runs c K Q) -∗ runs c (sentRows c l K) Q)
  | [] => by
    iintro ⟨-, Ho, -⟩ Hk
    iapply Hk
    isplitl [Ho]; · iexact Ho
    unfold sepL; iempintro
  | r :: l => by
    unfold sentRows
    show iprop(env m N ∗ ow c 0 ∗ (sentRes c r ∗ sepL (sentRes c) l))
      ⊢ iprop((ow c 0 ∗ (sentGot c r ∗ sepL (sentGot c) l) -∗ runs c K Q) -∗ _)
    iintro ⟨#He, Ho, Hr, Hl⟩ Hk
    unfold sentRes
    icases Hr with ⟨Hc, Hat⟩
    iapply (wait_runs m N c (f := (0, r)) rfl (above_zero 0) (Nat.le_refl 0) (credit_sb r)
      (fun _ => sentRows c l K) Q) $$ [Ho Hc Hat]
    · isplitr; · iexact He
      isplitl [Ho]; · iexact Ho
      isplitl [Hc]; · iexact Hc
      iexact Hat
    iintro ⟨Ho, Hz, Hp⟩
    ihave Hi := (sentRows_runs c K Q l) $$ [Ho Hl]
    · isplitr; · iexact He
      isplitl [Ho]; · iexact Ho
      unfold sentRes; iexact Hl
    iapply Hi
    iintro ⟨Ho, Hl⟩
    iapply Hk
    isplitl [Ho]; · iexact Ho
    isplitl [Hp Hz]
    · unfold sentGot
      isplitl [Hp]; · iapply (Entails.of_eq (pay_sent m c r)); iexact Hp
      iexact Hz
    · iexact Hl

theorem sentMaxs_runs (c : Dev nD) (K : Body F) (Q : PUnit → sProp 𝕄) : ∀ l : List (Fin 15),
    iprop(env m N ∗ ow c 0 ∗ sepL (mSentRes c) l)
      ⊢ iprop((ow c 0 ∗ sepL (mSentGot m c) l -∗ runs c K Q) -∗ runs c (sentMaxs l K) Q)
  | [] => by
    iintro ⟨-, Ho, -⟩ Hk
    iapply Hk
    isplitl [Ho]; · iexact Ho
    unfold sepL; iempintro
  | r :: l => by
    unfold sentMaxs
    show iprop(env m N ∗ ow c 0 ∗ (mSentRes c r ∗ sepL (mSentRes c) l))
      ⊢ iprop((ow c 0 ∗ (mSentGot m c r ∗ sepL (mSentGot m c) l) -∗ runs c K Q) -∗ _)
    iintro ⟨#He, Ho, Hr, Hl⟩ Hk
    unfold mSentRes
    icases Hr with ⟨Hc, Hat⟩
    iapply (wait_runs m N c (f := (2, r)) rfl (above_zero 0) (Nat.le_refl 0) credit_ab
      (fun _ => sentMaxs l K) Q) $$ [Ho Hc Hat]
    · isplitr; · iexact He
      isplitl [Ho]; · iexact Ho
      isplitl [Hc]; · iexact Hc
      iexact Hat
    iintro ⟨Ho, Hz, Hp⟩
    ihave Hi := (sentMaxs_runs c K Q l) $$ [Ho Hl]
    · isplitr; · iexact He
      isplitl [Ho]; · iexact Ho
      unfold mSentRes; iexact Hl
    iapply Hi
    iintro ⟨Ho, Hl⟩
    iapply Hk
    isplitl [Ho]; · iexact Ho
    isplitl [Hp Hz]
    · unfold mSentGot
      isplitl [Hp]; · iapply (Entails.of_eq (pay_mSent m c r)); iexact Hp
      iexact Hz
    · iexact Hl

theorem ac_setOn (r : Fin 15) : acM.view.setOn (acRect r).toLoadRect.set ⊆ (acSlot r).view.set := by
  rw [View.set_reshape, View.set_slice]; exact Finset.Subset.refl _

theorem recvMaxs_runs (c : Dev nD) (K : F .f32 → Body F) (Q : PUnit → sProp 𝕄) :
    ∀ (l : List (Fin 15)) (a : F .f32),
    iprop(env m N ∗ ow c 0 ∗ sepL (maxRes c) l)
      ⊢ iprop((ow c 0 ∗ sepL (maxGot m c) l -∗ runs c (K (gmaxOn m c l a)) Q)
          -∗ runs c (recvMaxs l a K) Q)
  | [], a => by
    iintro ⟨-, Ho, -⟩ Hk
    iapply Hk
    isplitl [Ho]; · iexact Ho
    unfold sepL; iempintro
  | r :: l, a => by
    unfold recvMaxs
    show iprop(env m N ∗ ow c 0 ∗ (maxRes c r ∗ sepL (maxRes c) l))
      ⊢ iprop((ow c 0 ∗ (maxGot m c r ∗ sepL (maxGot m c) l) -∗ runs c (K (gmaxOn m c l
        (maxStep a fun _ => lmax m (peer c r.rev)))) Q) -∗ _)
    iintro ⟨#He, Ho, Hr, Hl⟩ Hk
    unfold maxRes
    icases Hr with ⟨Hc, Hat⟩
    iapply (wait_runs m N c (f := (3, r)) rfl (above_zero 3) (Nat.le_refl 3) (credit_ac r)
      (fun _ => .op (.load acM (acRect r).toLoadRect (View.loadsAt_vmem h_S1x8x128)) fun v =>
        recvMaxs l (maxStep a v) K) Q) $$ [Ho Hc Hat]
    · isplitr; · iexact He
      isplitl [Ho]; · iexact Ho
      isplitl [Hc]; · iexact Hc
      iexact Hat
    iintro ⟨Ho, Hz, Hp⟩
    ihave Hp := (show payOf m c (.inr (3, r)) 0 ⊢ ((acSlot r).view.loc (c : Thread nD τ)
      ↦[(acSlot r).view.set]{fullShare} (fun _ => lmax m (peer c r.rev)) : sProp 𝕄) from
        Entails.refl _) $$ Hp
    iapply (wp_load 𝒱₀ (c : Thread nD τ) none Set.univ (m := acM) (ac_setOn r)) $$ Hp
    iintro Hp
    rw [ac_read]
    ihave Hi := (recvMaxs_runs c K Q l (maxStep a fun _ => lmax m (peer c r.rev))) $$ [Ho Hl]
    · isplitr; · iexact He
      isplitl [Ho]; · iexact Ho
      unfold maxRes; iexact Hl
    iapply Hi
    iintro ⟨Ho, Hl⟩
    iapply Hk
    isplitl [Ho]; · iexact Ho
    isplitl [Hp Hz]
    · unfold maxGot acPts
      isplitl [Hp]; · iexact Hp
      iexact Hz
    · iexact Hl

end Cert.KernelIdeal.Own

end
-- ==== Proof.Sends.lean ====
module

public import proofs.«01_k».proof.Proof.Steps

/-! # The copies to the peers

The rules for packing and sending rows, for keeping a device's own rows, and for sending the
maximum. -/

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (N : Dev nD × CK → ℕ)

/-- Device `c`'s shard of `x`. -/
def xPts (c : Dev nD) : sProp 𝕄 := ((c : Thread nD τ).loc cc0_stg0_0) ↦{fullShare} xs m c

theorem sb_setOn (r : Fin 15) : sbM.view.setOn (sbRect r).toLoadRect.set ⊆ (sbSlot r).view.set := by
  rw [View.set_reshape, View.set_slice]; exact Finset.Subset.refl _
theorem sb_setOn' (r : Fin 15) : (sbM.access (sbRect r)).setOn Finset.univ ⊆ (sbSlot r).view.set := by
  rw [View.set_reshape]; exact Finset.Subset.refl _

omit [FloatOps F] in
/-- The same rows named by two equal offsets. -/
theorem x_readAt {o o' : Fin 2 → Nat} (h : o = o')
    (i : ∀ a, o a + S256x256.size a ≤ S4096x256.size a)
    (i' : ∀ a, o' a + S256x256.size a ≤ S4096x256.size a)
    (f : (cc0_stg0_0 : Ref sig .tc).ty.Contents (Elt F)) :
    xM.view.readAt (Elt F) (Rect.unit (s := S4096x256) o S256x256.size i).toLoadRect f
      = xM.view.readAt (Elt F) (Rect.unit (s := S4096x256) o' S256x256.size i').toLoadRect f := by
  subst h; rfl

/-- What a slot of the send buffer holds once the rows for peer `r` are packed. -/
def packed (c : Dev nD) (r : Fin 15) (f : (cc0_scratch0 : Ref sig .tc).ty.Contents (Elt F)) :
    (cc0_scratch0 : Ref sig .tc).ty.Contents (Elt F) :=
  (sbM.access (sbRect r)).write (Elt F) f
    (sendPay (xM.view.readAt (Elt F)
      (Rect.unit (s := S4096x256) (k0_off1 c (BitVec.ofNat 32 (1 + r.val))) S256x256.size
        (k0_off1_inb c r)).toLoadRect (xs m c))) Finset.univ
theorem packed_read (c : Dev nD) (r : Fin 15)
    (f : (cc0_scratch0 : Ref sig .tc).ty.Contents (Elt F)) :
    (sbSlot r).view.read (Elt F) (packed m c r f) = XB m c (peer c r) := by
  unfold packed
  rw [sb_read, x_readAt (off1_eq c r) _ (k0_off3_inb (peer c r))]
  rfl

/-- A column block written with `s`'s rows agrees with the gathered rows. -/
theorem xr_written (c s : Dev nD) (f : (cc0_scratch1 : Ref sig .tc).ty.Contents (Elt F))
    {v : S256x256.Idx → Elt F .bf16} (hv : v = XB m s c) :
    ((xrCol s).view.loc (c : Thread nD τ) ↦[(xrCol s).view.set]{fullShare}
        ((xrCol s).view.write (Elt F) f v Finset.univ) : sProp 𝕄) = xrPts m c s := by
  subst hv
  refine pointsTo_congr (agree_of_read (xrCol s).view ?_)
  rw [View.read_write_univ, XR, col_read]

/-- What packing and sending rows to peer `r` takes. -/
def sendRes (c : Dev nD) (r : Fin 15) : sProp 𝕄 :=
  iprop(sbPts c r ∗ xrAny (peer c r) c ∗ dutyTok ER (sentCell c r) 0 0
    ∗ dutyTok ER (rowCell (peer c r) r) 0 0)
/-- What it leaves. -/
def sendGot (c : Dev nD) (r : Fin 15) : sProp 𝕄 := cred (tallyAt (sentCell c r) () NX)

theorem sendRows_runs (c n : Dev nD) (r : Fin 15) (hn : n = peer c r)
    (O : CellTallies nD τ sig Unit)
    {hsc : (xrCol c : Memref sig (Dev.tc n : Thread nD τ).2.kind .vmem S256x256 .bf16).view.ref.isScScratch = false}
    {hsrc : (sbSlot r).view.WordExact} {hdst : (xrCol c).view.WordExact}
    {hsem : DmaTarget.Typed .vmem (.dma (semAt cc0_scratch7 r))
      (.remote (Dev.tc n : Thread nD τ) (xrCol c) (.dma (semAt cc0_scratch6 r)) hsc)}
    (f : (cc0_scratch0 : Ref sig .tc).ty.Contents (Elt F))
    (hf : (sbSlot r).view.read (Elt F) f = XB m c (peer c r)) (K : PUnit → Body F)
    (Q : PUnit → sProp 𝕄) :
    iprop(env m N ∗ ow c (O + dueX c r)
        ∗ ((sbSlot r).view.loc (c : Thread nD τ) ↦[(sbSlot r).view.set]{fullShare} f)
        ∗ xrAny (peer c r) c ∗ dutyTok ER (sentCell c r) 0 0 ∗ dutyTok ER (rowCell (peer c r) r) 0 0)
      ⊢ iprop((ow c O ∗ sendGot c r -∗ runs c (K ⟨⟩) Q)
          -∗ runs c (.op (.enqueueDma (sbSlot r)
            (.remote (Dev.tc n : Thread nD τ) (xrCol c) (.dma (semAt cc0_scratch6 r)) hsc)
            (.dma (semAt cc0_scratch7 r)) hsrc hdst hsem) K) Q) := by
  subst hn
  unfold ow xrAny
  iintro ⟨#He, ⟨%W, Ho⟩, Hs, ⟨%fd, Hd⟩, Ht, Ht'⟩ Hk
  iapply (Rounds.wp_send_pointsTo 𝒱₀ ER (Rd m) (c : Thread nD τ) none (κ₁ := N (c, .inr (0, r)))
    (κ₂ := N (peer c r, .inr (1, r))) (r₁ := 0) (r₂ := 0) (d₁ := 0) (d₂ := 0) (fd := fd)
    (mem_one m c (kind_sent r)) (mem_one m (peer c r) (kind_row r)) () () NX (credit_xr c)
    (amount_of m c (kind_sent r) 0) (amount_of m (peer c r) (kind_row r) 0) O rfl (W := W)
    (by
      rw [payload_of m c (kind_sent r) 0, pay_sent]
      unfold sbPts
      iintro H; iexists f; iexact H)
    (by
      rw [payload_of m (peer c r) (kind_row r) 0, pay_row, rev_peer]
      exact Entails.of_eq (xr_written m (peer c r) c fd hf))) $$ [Hs Hd Ho Ht Ht']
  · isplitr; · iapply (env_inv m N c (.inr (0, r)) rfl); iexact He
    isplitr; · iapply (env_inv m N (peer c r) (.inr (1, r)) rfl); iexact He
    isplitl [Hs]; · iexact Hs
    isplitl [Hd]; · iexact Hd
    isplitl [Ho]; · iexact Ho
    isplitl [Ht]; · iexact Ht
    isplitr; · iapply (env_reached m N c (.inr (0, r)) rfl); iexact He
    isplitl [Ht']; · iexact Ht'
    iapply (env_reached m N (peer c r) (.inr (1, r)) rfl); iexact He
  iintro ⟨Hc, Ho⟩
  iapply Hk
  isplitl [Ho]; · iexists W; iexact Ho
  unfold sendGot
  iexact Hc

theorem sends_runs (c : Dev nD) (O : CellTallies nD τ sig Unit) (K : Body F) (Q : PUnit → sProp 𝕄) :
    ∀ l : List (Fin 15),
    iprop(env m N ∗ ow c (O + dues (dueX c) l) ∗ xPts m c ∗ sepL (sendRes c) l)
      ⊢ iprop((ow c O ∗ xPts m c ∗ sepL (sendGot c) l -∗ runs c K Q) -∗ runs c (sends c l K) Q)
  | [] => by
    rw [show O + dues (dueX c) [] = O from add_zero O]
    iintro ⟨-, Ho, Hx, -⟩ Hk
    iapply Hk
    isplitl [Ho]; · iexact Ho
    isplitl [Hx]; · iexact Hx
    unfold sepL; iempintro
  | r :: l => by
    unfold sends packRows
    rw [show O + dues (dueX c) (r :: l) = (O + dues (dueX c) l) + dueX c r from
      (add_assoc _ _ _).symm]
    show iprop(env m N ∗ ow c ((O + dues (dueX c) l) + dueX c r) ∗ xPts m c
        ∗ (sendRes c r ∗ sepL (sendRes c) l))
      ⊢ iprop((ow c O ∗ xPts m c ∗ (sendGot c r ∗ sepL (sendGot c) l) -∗ runs c K Q) -∗ _)
    unfold xPts
    iintro ⟨#He, Ho, Hx, Hr, Hl⟩ Hk
    unfold sendRes
    icases Hr with ⟨Hs, Hd, Ht, Ht'⟩
    unfold sbPts
    icases Hs with ⟨%f, Hs⟩
    iapply (wp_load 𝒱₀ (c : Thread nD τ) none Set.univ (m := xM) (Finset.subset_univ _)) $$ Hx
    iintro Hx
    iapply (wp_load 𝒱₀ (c : Thread nD τ) none Set.univ (m := sbM) (sb_setOn r)) $$ Hs
    iintro Hs
    iapply (wp_store 𝒱₀ (c : Thread nD τ) none Set.univ (m := sbM) (r := sbRect r)
      (Mk := Finset.univ) (sb_setOn' r)) $$ Hs
    iintro Hs
    iapply (sendRows_runs m N c _ r (sendDev_eq r c) (O + dues (dueX c) l)
      (packed m c r f) (packed_read m c r f) (fun _ => sends c l K) Q)
      $$ [Ho Hs Hd Ht Ht']
    · isplitr; · iexact He
      isplitl [Ho]; · iexact Ho
      isplitl [Hs]; · iexact Hs
      isplitl [Hd]; · iexact Hd
      isplitl [Ht]; · iexact Ht
      iexact Ht'
    iintro ⟨Ho, Hg⟩
    ihave Hi := (sends_runs c O K Q l) $$ [Ho Hx Hl]
    · isplitr; · iexact He
      isplitl [Ho]; · iexact Ho
      isplitl [Hx]; · unfold xPts; iexact Hx
      unfold sendRes sbPts; iexact Hl
    iapply Hi
    unfold xPts
    iintro ⟨Ho, Hx, Hl⟩
    iapply Hk
    isplitl [Ho]; · iexact Ho
    isplitl [Hx]; · iexact Hx
    isplitl [Hg] <;> iassumption

/-! ## A device's own rows -/

theorem col_setOn (c : Dev nD) {o : Fin 2 → Nat} (h : o = k0_off2 c)
    (i : ∀ a, o a + S256x256.size a ≤ S256x4096.size a) :
    xrM.view.setOn (Rect.unit (s := S256x4096) o S256x256.size i).toLoadRect.set
      ⊆ (xrCol c).view.set := by
  subst h
  rw [View.set_slice]; exact Finset.Subset.refl _
theorem col_setOn' (c : Dev nD) {o : Fin 2 → Nat} (h : o = k0_off2 c)
    (i : ∀ a, o a + S256x256.size a ≤ S256x4096.size a) :
    (xrM.access (Rect.unit (s := S256x4096) o S256x256.size i)).setOn Finset.univ
      ⊆ (xrCol c).view.set := by
  subst h; exact Finset.Subset.refl _
/-- The device's own column block written with its own rows. -/
theorem own_written (c : Dev nD) {o : Fin 2 → Nat} (h : o = k0_off2 c)
    (i : ∀ a, o a + S256x256.size a ≤ S256x4096.size a)
    (f : (cc0_scratch1 : Ref sig .tc).ty.Contents (Elt F)) :
    ((xrCol c).view.loc (c : Thread nD τ) ↦[(xrCol c).view.set]{fullShare}
        ((xrM.access (Rect.unit (s := S256x4096) o S256x256.size i)).write (Elt F) f
          (ownPay (rowsOf m c c)) Finset.univ) : sProp 𝕄) = xrPts m c c := by
  subst h
  exact xr_written m c c f (own_eq _)

theorem ownRows_runs (c : Dev nD) (K : Body F) (Q : PUnit → sProp 𝕄) :
    iprop(xPts m c ∗ xrAny c c)
      ⊢ iprop((xPts m c ∗ xrPts m c c -∗ runs c K Q) -∗ runs c (ownRows c K) Q) := by
  unfold ownRows xPts xrAny
  iintro ⟨Hx, ⟨%f, Hr⟩⟩ Hk
  iapply (wp_load 𝒱₀ (c : Thread nD τ) none Set.univ (m := xM) (Finset.subset_univ _)) $$ Hx
  iintro Hx
  iapply (wp_load 𝒱₀ (c : Thread nD τ) none Set.univ (m := xrM)
    (col_setOn c (off4_eq c) (k0_off4_inb c))) $$ Hr
  iintro Hr
  iapply (wp_store 𝒱₀ (c : Thread nD τ) none Set.univ (m := xrM)
    (r := Rect.unit (s := S256x4096) (k0_off4 c) S256x256.size (k0_off4_inb c))
    (Mk := Finset.univ) (col_setOn' c (off4_eq c) (k0_off4_inb c))) $$ Hr
  iintro Hr
  iapply Hk
  isplitl [Hx]; · iexact Hx
  iapply (Entails.of_eq (own_written m c (off4_eq c) (k0_off4_inb c) f))
  iexact Hr

/-! ## The maximum -/

/-- What sending the maximum to peer `r` takes. -/
def mSendRes (c : Dev nD) (r : Fin 15) : sProp 𝕄 :=
  iprop(abTok m c r ∗ acAny (peer c r) r ∗ dutyTok ER (mSentCell c r) 0 0
    ∗ dutyTok ER (maxCell (peer c r) r) 0 0)
/-- What it leaves. -/
def mSendGot (c : Dev nD) (r : Fin 15) : sProp 𝕄 := cred (tallyAt (mSentCell c r) () NM)

theorem ac_written (c : Dev nD) (r : Fin 15) (f : (cc0_scratch5 : Ref sig .tc).ty.Contents (Elt F)) :
    ((acSlot r).view.loc (peer c r : Thread nD τ) ↦[(acSlot r).view.set]{fullShare}
        ((acSlot r).view.write (Elt F) f (abM.view.read (Elt F) fun _ => lmax m c) Finset.univ)
          : sProp 𝕄) = acPts m (peer c r) r := by
  unfold acPts
  rw [rev_peer]
  refine pointsTo_congr (agree_of_read (acSlot r).view ?_)
  rw [View.read_write_univ]
  rfl

theorem sendMax_runs (c n : Dev nD) (r : Fin 15) (hn : n = peer c r) (O : CellTallies nD τ sig Unit)
    {hsc : (acSlot r : Memref sig (Dev.tc n : Thread nD τ).2.kind .vmem S8x128 .f32).view.ref.isScScratch = false}
    {hsrc : abM.view.WordExact} {hdst : (acSlot r).view.WordExact}
    {hsem : DmaTarget.Typed .vmem (.dma (semAt cc0_scratch9 r))
      (.remote (Dev.tc n : Thread nD τ) (acSlot r) (.dma (semAt cc0_scratch8 r)) hsc)}
    (K : PUnit → Body F) (Q : PUnit → sProp 𝕄) :
    iprop(env m N ∗ ow c (O + dueM c r) ∗ mSendRes m c r)
      ⊢ iprop((ow c O ∗ mSendGot c r -∗ runs c (K ⟨⟩) Q)
          -∗ runs c (.op (.enqueueDma abM
            (.remote (Dev.tc n : Thread nD τ) (acSlot r) (.dma (semAt cc0_scratch8 r)) hsc)
            (.dma (semAt cc0_scratch9 r)) hsrc hdst hsem) K) Q) := by
  subst hn
  unfold ow mSendRes acAny abTok
  iintro ⟨#He, ⟨%W, Ho⟩, Hs, ⟨%fd, Hd⟩, Ht, Ht'⟩ Hk
  iapply (Rounds.wp_send_pointsTo 𝒱₀ ER (Rd m) (c : Thread nD τ) none (κ₁ := N (c, .inr (2, r)))
    (κ₂ := N (peer c r, .inr (3, r))) (r₁ := 0) (r₂ := 0) (d₁ := 0) (d₂ := 0) (fd := fd)
    (mem_one m c (kind_mSent r)) (mem_one m (peer c r) (kind_max r)) () () NM (credit_ac r)
    (amount_of m c (kind_mSent r) 0) (amount_of m (peer c r) (kind_max r) 0) O rfl (W := W)
    (by
      rw [payload_of m c (kind_mSent r) 0, pay_mSent]
      unfold abTok
      exact Entails.refl _)
    (by
      rw [payload_of m (peer c r) (kind_max r) 0, pay_max]
      exact Entails.of_eq (ac_written m c r fd))) $$ [Hs Hd Ho Ht Ht']
  · isplitr; · iapply (env_inv m N c (.inr (2, r)) rfl); iexact He
    isplitr; · iapply (env_inv m N (peer c r) (.inr (3, r)) rfl); iexact He
    isplitl [Hs]; · iexact Hs
    isplitl [Hd]; · iexact Hd
    isplitl [Ho]; · iexact Ho
    isplitl [Ht]; · iexact Ht
    isplitr; · iapply (env_reached m N c (.inr (2, r)) rfl); iexact He
    isplitl [Ht']; · iexact Ht'
    iapply (env_reached m N (peer c r) (.inr (3, r)) rfl); iexact He
  iintro ⟨Hc, Ho⟩
  iapply Hk
  isplitl [Ho]; · iexists W; iexact Ho
  unfold mSendGot
  iexact Hc

theorem sendMaxs_runs (c : Dev nD) (O : CellTallies nD τ sig Unit) (K : Body F)
    (Q : PUnit → sProp 𝕄) : ∀ l : List (Fin 15),
    iprop(env m N ∗ ow c (O + dues (dueM c) l) ∗ sepL (mSendRes m c) l)
      ⊢ iprop((ow c O ∗ sepL (mSendGot c) l -∗ runs c K Q) -∗ runs c (sendMaxs c l K) Q)
  | [] => by
    rw [show O + dues (dueM c) [] = O from add_zero O]
    iintro ⟨-, Ho, -⟩ Hk
    iapply Hk
    isplitl [Ho]; · iexact Ho
    unfold sepL; iempintro
  | r :: l => by
    unfold sendMaxs
    rw [show O + dues (dueM c) (r :: l) = (O + dues (dueM c) l) + dueM c r from
      (add_assoc _ _ _).symm]
    show iprop(env m N ∗ ow c ((O + dues (dueM c) l) + dueM c r)
        ∗ (mSendRes m c r ∗ sepL (mSendRes m c) l))
      ⊢ iprop((ow c O ∗ (mSendGot c r ∗ sepL (mSendGot c) l) -∗ runs c K Q) -∗ _)
    iintro ⟨#He, Ho, Hr, Hl⟩ Hk
    iapply (sendMax_runs m N c _ r (amaxDev_eq r c) (O + dues (dueM c) l)
      (fun _ => sendMaxs c l K) Q) $$ [Ho Hr]
    · isplitr; · iexact He
      isplitl [Ho] <;> iassumption
    iintro ⟨Ho, Hg⟩
    ihave Hi := (sendMaxs_runs c O K Q l) $$ [Ho Hl]
    · isplitr; · iexact He
      isplitl [Ho] <;> iassumption
    iapply Hi
    iintro ⟨Ho, Hl⟩
    iapply Hk
    isplitl [Ho]; · iexact Ho
    isplitl [Hg] <;> iassumption

end Cert.KernelIdeal.Own

end
-- ==== Proof.Tiles.lean ====
module

public import proofs.«01_k».proof.Proof.Sends

/-! # The rounds of the product

The rules for copying a tile of `w`, for waiting for the rows of a round, and for adding a round's
contribution to a tile of the product; put together they give a round. -/

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Where the counters of the local copies lie in the algebra. -/
abbrev EC : UEmb Counters (MT nD τ sig Unit (Elt F) ℕ UU ℕ) := countersEmb

variable (m : (ℓ : Loc nD τ sig) → Buf (Elt F) ℓ) (N : Dev nD × CK → ℕ)

omit [FloatOps F] in
theorem bigSep_fin4 (Φ : Fin 4 → sProp 𝕄) :
    bigSep Finset.univ Φ = iprop(Φ 0 ∗ Φ 1 ∗ Φ 2 ∗ Φ 3) :=
  bigSep_univ_eq_bigSepL [0, 1, 2, 3] (by decide) (by decide) Φ

/-! ## Tiles of `w` -/

/-- The share of `w` that the copies into a slot read. -/
def wShare (q : Fin 4) : PosShare TreeShare :=
  if q.val % 2 = 0 then fullShare.left else fullShare.right
/-- That share of device `c`'s `w`. -/
def wPts (c : Dev nD) (q : Fin 4) : sProp 𝕄 := ((c : Thread nD τ).loc main_arg1) ↦{wShare q} ws m c
/-- The slot's semaphore at rest. -/
def wSem (c : Dev nD) (q : Fin 4) : sProp 𝕄 := semVal ((c : Thread nD τ), .dma (wdSem q)) 0
/-- No copy into the slot of tile `q` is under way. -/
def Idle (c : Dev nD) (q : Fin 4) : sProp 𝕄 :=
  iprop(wPts m c q ∗ (∃ f, (wbSlot q).view.loc (c : Thread nD τ) ↦[(wbSlot q).view.set]{fullShare} f)
    ∗ wSem c q)
/-- The slot holds tile `q` of group `g`. -/
def Full (c : Dev nD) (g q : Fin 4) : sProp 𝕄 :=
  iprop(wPts m c q ∗ (∃ f, ⌜(wbSlot q).view.read (Elt F) f = WT m c g q⌝
      ∗ (wbSlot q).view.loc (c : Thread nD τ) ↦[(wbSlot q).view.set]{fullShare} f) ∗ wSem c q)
/-- The credit of a tile of `w`. -/
def NW : ℕ := (wbSlot 0).view.dmaCredit
theorem NW_pos : 0 < NW := View.dmaCredit_pos _ (by decide)
theorem credit_wb (q : Fin 4) : (wbSlot q).view.dmaCredit = NW := by rfl
/-- What the copy of tile `q` of group `g` delivers. -/
def wDel (c : Dev nD) (g q : Fin 4) (f : (cc0_scratch2 : Ref sig .tc).ty.Contents (Elt F)) : sProp 𝕄 :=
  iprop(((wbSlot q).view.loc (c : Thread nD τ) ↦[(wbSlot q).view.set]{fullShare}
      ((wbSlot q).view.write (Elt F) f (WT m c g q) Finset.univ))
    ∗ ((wTile g q).view.loc (c : Thread nD τ) ↦[(wTile g q).view.set]{wShare q} ws m c))
/-- The copy of tile `q` of group `g` is under way. -/
def Fly (c : Dev nD) (g q : Fin 4) : sProp 𝕄 :=
  iprop((∃ f, Transfers.Flight EC (c : Thread nD τ) (.dma (wdSem q)) () NW (wDel m c g q f))
    ∗ (((c : Thread nD τ).loc main_arg1) ↦[Finset.univ \ (wTile g q).view.set]{wShare q} ws m c))

theorem whenDo_pos {b : BitVec 1} {e : b = 1#1 → TpuEff nD τ sig (Elt F) Λ₀ .tc PUnit} {K : Body F}
    (h : b = 1#1) : whenDo b e K = .op (e h) fun _ => K := dif_pos h
theorem whenDo_neg {b : BitVec 1} {e : b = 1#1 → TpuEff nD τ sig (Elt F) Λ₀ .tc PUnit} {K : Body F}
    (h : ¬ b = 1#1) : whenDo b e K = K := dif_neg h

/-- Of the four conditional copies the one of the round's group is started. -/
theorem startW_eq (c : Dev nD) (j q : Fin 4) (K : Body F) :
    startW c j q K = .op (copyW (grp c j) q) fun _ => K := by
  have h := wCond_iff c j
  generalize grp c j = g at h
  unfold startW
  match g, h with
  | 0, h =>
    rw [whenDo_pos ((h 0).mpr rfl), whenDo_neg (fun e => absurd ((h 1).mp e) (by decide)),
      whenDo_neg (fun e => absurd ((h 2).mp e) (by decide)),
      whenDo_neg (fun e => absurd ((h 3).mp e) (by decide))]
  | 1, h =>
    rw [whenDo_neg (fun e => absurd ((h 0).mp e) (by decide)), whenDo_pos ((h 1).mpr rfl),
      whenDo_neg (fun e => absurd ((h 2).mp e) (by decide)),
      whenDo_neg (fun e => absurd ((h 3).mp e) (by decide))]
  | 2, h =>
    rw [whenDo_neg (fun e => absurd ((h 0).mp e) (by decide)),
      whenDo_neg (fun e => absurd ((h 1).mp e) (by decide)), whenDo_pos ((h 2).mpr rfl),
      whenDo_neg (fun e => absurd ((h 3).mp e) (by decide))]
  | 3, h =>
    rw [whenDo_neg (fun e => absurd ((h 0).mp e) (by decide)),
      whenDo_neg (fun e => absurd ((h 1).mp e) (by decide)),
      whenDo_neg (fun e => absurd ((h 2).mp e) (by decide)), whenDo_pos ((h 3).mpr rfl)]

theorem copyW_runs (c : Dev nD) (g q : Fin 4) (K : PUnit → Body F) (Q : PUnit → sProp 𝕄) :
    Idle m c q ⊢ iprop((Fly m c g q -∗ runs c (K ⟨⟩) Q) -∗ runs c (.op (copyW g q) K) Q) := by
  unfold Idle wPts wSem
  iintro ⟨Hw, ⟨%f, Hb⟩, Hz⟩ Hk
  ihave Hw := (pointsTo_split_subset (Finset.subset_univ (wTile g q).view.set)) $$ Hw
  icases Hw with ⟨Hw1, Hw2⟩
  iapply (Transfers.wp_dmaLocal EC 𝒱₀ (c : Thread nD τ) none (src := wTile g q) (dst := wbSlot q)
    (via := ReadAs.same) (sm := .dma (wdSem q)) (q := wShare q) (fs := ws m c)
    (Sd := (wbSlot q).view.set) (fd := f) () NW (credit_wb q) NW_pos (Finset.Subset.refl _))
    $$ [Hw1 Hb Hz]
  · isplitl [Hw1]; · iexact Hw1
    isplitl [Hb]; · iexact Hb
    iexact Hz
  iintro HF
  iapply Hk
  unfold Fly
  isplitl [HF]
  · iexists f; unfold wDel; iexact HF
  · iexact Hw2

theorem startW_runs (c : Dev nD) (j q : Fin 4) (K : Body F) (Q : PUnit → sProp 𝕄) :
    Idle m c q ⊢ iprop((Fly m c (grp c j) q -∗ runs c K Q) -∗ runs c (startW c j q K) Q) := by
  rw [startW_eq]
  exact copyW_runs m c (grp c j) q (fun _ => K) Q

theorem kind_wd (q : Fin 4) : kindOf (.dma (wdSem q)) = none := by
  refine kind_none ?_
  revert q
  decide +kernel

/-- The tile read by a copy put back into `w`. -/
theorem w_join (c : Dev nD) (g q : Fin 4) :
    iprop(((wTile g q).view.loc (c : Thread nD τ) ↦[(wTile g q).view.set]{wShare q} ws m c)
        ∗ (((c : Thread nD τ).loc main_arg1) ↦[Finset.univ \ (wTile g q).view.set]{wShare q} ws m c))
      ⊢ wPts m c q := by
  unfold wPts
  exact (pointsTo_split_subset (ℓ := (c : Thread nD τ).loc main_arg1) (f := ws m c)
    (Finset.subset_univ (wTile g q).view.set)).2

theorem waitW_runs (c : Dev nD) (g q : Fin 4) {O : CellTallies nD τ sig Unit} (hO : Above 0 O)
    (K : Body F) (Q : PUnit → sProp 𝕄) :
    iprop(env m N ∗ ow c O ∗ Fly m c g q)
      ⊢ iprop((ow c O ∗ Full m c g q -∗ runs c K Q) -∗ runs c (waitW q K) Q) := by
  unfold ow Fly waitW
  iintro ⟨#He, ⟨%W, Ho⟩, ⟨%f, HF⟩, Hw2⟩ Hk
  iapply (Transfers.wp_waitLocalO EC 𝒱₀ (c : Thread nD τ) none () (credit_wb q)) $$ [HF Ho]
  · isplitl [HF]; · iexact HF
    isplitl [Ho]; · iexact Ho
    iapply (env_wait m N c (Nat.le_of_eq (lv_none (kind_wd q))) hO); iexact He
  iintro ⟨HD, Hz, Ho⟩
  unfold wDel
  icases HD with ⟨Hb, Hw1⟩
  iapply Hk
  isplitl [Ho]; · iexists _; iexact Ho
  unfold Full wSem
  isplitl [Hw1 Hw2]
  · iapply (w_join m c g q)
    isplitl [Hw1] <;> iassumption
  isplitl [Hb]
  · iexists ((wbSlot q).view.write (Elt F) f (WT m c g q) Finset.univ)
    isplitr
    · ipureintro; exact View.read_write_univ _ _
    · iexact Hb
  · iexact Hz

/-! ## The rows of a round -/

/-- Before device `s`'s rows have been waited for. -/
def Await (c s : Dev nD) : sProp 𝕄 :=
  if s = c then xrPts m c c
  else iprop(cred (tallyAt (rowCell c (ix c s)) () NX) ∗ atPos ER (rowCell c (ix c s)) 0 ∅ 0)
/-- The semaphore device `s`'s rows arrive on, at rest. -/
def rowSem (c s : Dev nD) : sProp 𝕄 :=
  if s = c then iprop(emp) else semVal (rowCell c (ix c s)) 0

theorem recvWait_runs (c s : Dev nD) (hs : s ≠ c) (q : DmaSem sig)
    (hq : q = semAt cc0_scratch7 (ix c s)) {O : CellTallies nD τ sig Unit} (hO : Above 2 O)
    {sp sp' : Space} {t t' : Shape} {e e' : EltTy} {srcw : Memref sig .tc sp' t' e'}
    {dstw : Memref sig .tc sp t e} {hsrc : srcw.view.WordExact} {hdst : dstw.view.WordExact}
    (hN : dstw.view.dmaCredit = NX) (K : PUnit → Body F) (Q : PUnit → sProp 𝕄) :
    iprop(env m N ∗ ow c O ∗ Await m c s)
      ⊢ iprop((ow c O ∗ xrPts m c s ∗ rowSem c s -∗ runs c (K ⟨⟩) Q)
          -∗ runs c (.op (.waitDma2 q srcw dstw hsrc hdst) K) Q) := by
  subst hq
  unfold Await rowSem
  rw [if_neg hs, if_neg hs]
  iintro ⟨#He, Ho, Hc, Hat⟩ Hk
  iapply (wait_runs m N c (f := (1, ix c s)) rfl hO (Nat.le_refl 2) hN K Q) $$ [Ho Hc Hat]
  · isplitr; · iexact He
    isplitl [Ho]; · iexact Ho
    isplitl [Hc]; · iexact Hc
    iexact Hat
  iintro ⟨Ho, Hz, Hp⟩
  iapply Hk
  isplitl [Ho]; · iexact Ho
  isplitl [Hp]
  · iapply (Entails.of_eq ((pay_row m c (ix c s)).trans (by rw [peer_rev_ix c s hs])))
    iexact Hp
  · iexact Hz

omit [FloatOps F] in
theorem sem_of_off {o : Fin 1 → Nat} {r : Fin 15} (h : o = ![1 + r.val])
    (i : ∀ a, o a + S1.size a ≤ S16.size a) (s : DmaSems sig S16) :
    ((s.slice (Rect.unit (s := S16) o S1.size i)).squeeze S_ squeezes_S1_S_).sem = semAt s r := by
  subst h; rfl

theorem credit_cols {o : Fin 2 → Nat} (i : ∀ a, o a + S256x256.size a ≤ S256x4096.size a) :
    (xrM.slice (Rect.unit (s := S256x4096) o S256x256.size i) (fun _ => rfl)).view.dmaCredit = NX := by
  rfl

theorem recv_runs (c : Dev nD) (j s : Fin 4) {O : CellTallies nD τ sig Unit} (hO : Above 2 O)
    (K : Body F) (Q : PUnit → sProp 𝕄) :
    iprop(env m N ∗ ow c O ∗ Await m c (src c j s))
      ⊢ iprop((ow c O ∗ xrPts m c (src c j s) ∗ rowSem c (src c j s) -∗ runs c K Q)
          -∗ runs c (whenDo (rCond c j s) (recvRows c j s) K) Q) := by
  by_cases hs : src c j s = c
  · rw [whenDo_neg fun h => (rCond_iff c j s).mp h hs]
    unfold Await rowSem
    rw [if_pos hs, if_pos hs, hs]
    iintro ⟨-, Ho, Hx⟩ Hk
    iapply Hk
    isplitl [Ho]; · iexact Ho
    isplitl [Hx]; · iexact Hx
    iempintro
  · rw [whenDo_pos ((rCond_iff c j s).mpr hs)]
    have h := (rCond_iff c j s).mpr hs
    exact recvWait_runs m N c (src c j s) hs
      (((cc0_scratch7.slice (Rect.unit (s := S16) (rSem c j s) S1.size (rSem_inb c j s h))).squeeze S_
        squeezes_S1_S_).sem)
      (sem_of_off (rSem_eq c j s hs) _ _) hO (srcw := sbSlot0)
      (dstw := xrM.slice (Rect.unit (s := S256x4096) (rCol c j s) S256x256.size (rCol_inb c j s h))
        (fun _ => rfl)) (credit_cols _) (fun _ => K) Q

/-- The elements of the gathered rows used in round `j`. -/
def gset (c : Dev nD) (j : Fin 4) : Finset S256x4096.Idx :=
  Finset.univ.biUnion fun s : Fin 4 => (xrCol (src c j s)).view.set
/-- The gathered rows used in round `j`. -/
def xgPts (c : Dev nD) (j : Fin 4) : sProp 𝕄 :=
  ((c : Thread nD τ).loc cc0_scratch1) ↦[gset c j]{fullShare} XR m c

theorem src_inj (c : Dev nD) (j s s' : Fin 4) (h : s ≠ s') : src c j s ≠ src c j s' := by
  intro e
  have e' : 4 * (grp c j).val + s.val = 4 * (grp c j).val + s'.val := congrArg Fin.val e
  exact h (Fin.ext (by omega))

theorem xgPts_eq (c : Dev nD) (j : Fin 4) :
    xgPts m c j = bigSep Finset.univ fun s : Fin 4 => xrPts m c (src c j s) := by
  unfold xgPts gset xrPts
  exact pointsTo_biUnion (ℓ := (c : Thread nD τ).loc cc0_scratch1) Finset.univ (fun s : Fin 4 => (xrCol (src c j s)).view.set)
    (fun s _ s' _ h => xr_disj _ _ (src_inj c j s s' h))

theorem recvs_runs (c : Dev nD) (j : Fin 4) {O : CellTallies nD τ sig Unit} (hO : Above 2 O)
    (K : Body F) (Q : PUnit → sProp 𝕄) :
    iprop(env m N ∗ ow c O ∗ bigSep Finset.univ fun s => Await m c (src c j s))
      ⊢ iprop((ow c O ∗ xgPts m c j ∗ (bigSep Finset.univ fun s => rowSem c (src c j s))
          -∗ runs c K Q) -∗ runs c (recvs c j K) Q) := by
  rw [xgPts_eq, bigSep_fin4, bigSep_fin4, bigSep_fin4]
  unfold recvs
  iintro ⟨#He, Ho, H0, H1, H2, H3⟩ Hk
  iapply (recv_runs m N c j 0 hO _ Q) $$ [Ho H0]
  · isplitr; · iexact He
    isplitl [Ho] <;> iassumption
  iintro ⟨Ho, X0, Z0⟩
  iapply (recv_runs m N c j 1 hO _ Q) $$ [Ho H1]
  · isplitr; · iexact He
    isplitl [Ho] <;> iassumption
  iintro ⟨Ho, X1, Z1⟩
  iapply (recv_runs m N c j 2 hO _ Q) $$ [Ho H2]
  · isplitr; · iexact He
    isplitl [Ho] <;> iassumption
  iintro ⟨Ho, X2, Z2⟩
  iapply (recv_runs m N c j 3 hO _ Q) $$ [Ho H3]
  · isplitr; · iexact He
    isplitl [Ho] <;> iassumption
  iintro ⟨Ho, X3, Z3⟩
  iapply Hk
  isplitl [Ho]; · iexact Ho
  isplitl [X0 X1 X2 X3]
  · isplitl [X0]; · iexact X0
    isplitl [X1]; · iexact X1
    isplitl [X2] <;> iassumption
  · isplitl [Z0]; · iexact Z0
    isplitl [Z1]; · iexact Z1
    isplitl [Z2] <;> iassumption

/-! ## The running product -/

/-- Tile `q` of the product has had `lev q` contributions. -/
def yIs (c : Dev nD) (lev : Fin 4 → ℕ) : sProp 𝕄 :=
  iprop(∃ f : Buf (Elt F) ((c : Thread nD τ).loc cc0_scratch3),
    ⌜∀ q, lev q ≠ 0 → yM.view.readAt (Elt F) (yRect q).toLoadRect f = YT m c q (lev q - 1)⌝
    ∗ ((c : Thread nD τ).loc cc0_scratch3) ↦{fullShare} f)

/-- The contributions after the tiles below `q` of round `j`. -/
def Lv (j q : ℕ) (p : Fin 4) : ℕ := if p.val < q then j + 1 else j
theorem Lv_next (j : ℕ) : Lv j 4 = Lv (j + 1) 0 := by
  funext p
  unfold Lv
  rw [if_pos p.isLt, if_neg (Nat.not_lt_zero _)]

/-- A tile stored at its next level keeps the others. -/
theorem y_step (c : Dev nD) (j : ℕ) (q : Fin 4) (f : (cc0_scratch3 : Ref sig .tc).ty.Contents (Elt F))
    (h : ∀ p, Lv j q.val p ≠ 0 →
      yM.view.readAt (Elt F) (yRect p).toLoadRect f = YT m c p (Lv j q.val p - 1))
    (p : Fin 4) (hp : Lv j (q.val + 1) p ≠ 0) :
    yM.view.readAt (Elt F) (yRect p).toLoadRect
        ((yM.access (yRect q)).write (Elt F) f (YT m c q j) Finset.univ)
      = YT m c p (Lv j (q.val + 1) p - 1) := by
  by_cases e : p = q
  · subst e
    rw [y_read_same]
    unfold Lv
    rw [if_pos (Nat.lt_succ_self _)]
    rfl
  · have e' : p.val ≠ q.val := fun e' => e (Fin.ext e')
    have hl : Lv j (q.val + 1) p = Lv j q.val p := by
      unfold Lv
      split_ifs <;> first | rfl | omega
    rw [y_read_other e, hl]
    exact h p (hl ▸ hp)

theorem YT_next (c : Dev nD) (j q : Fin 4) {n : ℕ} (h : j.val = n + 1) :
    YT m c q j.val = shapeCast S256x2048
      (addf (YT m c q n) (dot2 (XG m c j) (WT m c (grp c j) q))) shapeCasts_S256x2048_S256x2048 := by
  have hj : (Fin.ofNat 4 (n + 1)) = j := by
    apply Fin.ext
    show (n + 1) % 4 = j.val
    have := j.isLt
    omega
  rw [h]
  show shapeCast S256x2048 (addf (YT m c q n) (dot2 (XG m c (Fin.ofNat 4 (n + 1)))
    (WT m c (grp c (Fin.ofNat 4 (n + 1))) q))) _ = _
  rw [hj]

theorem wb_setOn (q : Fin 4) : wbM.view.setOn (wbRect q).toLoadRect.set ⊆ (wbSlot q).view.set := by
  rw [View.set_reshape, View.set_slice]; exact Finset.Subset.refl _
theorem xg_setOn (c : Dev nD) (j : Fin 4) :
    xrM.view.setOn (Rect.unit (s := S256x4096) (k0_off13 c (BitVec.ofNat 32 j.val)) S256x1024.size
      (k0_off13_inb c j)).toLoadRect.set ⊆ gset c j := by
  intro i hi
  obtain ⟨x, hx, hxi⟩ := Finset.mem_map.mp hi
  have hxi : x = i := hxi
  subst hxi
  have hm := (LoadRect.mem_set _).mp hx 1
  obtain ⟨y, hy, e⟩ := hm
  have hy : y < 1024 := hy
  have e : (x 1).val = k0_off13 c (BitVec.ofNat 32 j.val) 1 + 1 * y := e
  have e' : k0_off13 c (BitVec.ofNat 32 j.val) 1 = 1024 * (grp c j).val := congrFun (off13_eq c j) 1
  have hs : y / 256 < 4 := by omega
  have hc : (x 1).val / 256 = (src c j ⟨y / 256, hs⟩).val := by
    show (x 1).val / 256 = 4 * (grp c j).val + y / 256
    omega
  unfold gset
  exact Finset.mem_biUnion.mpr ⟨⟨y / 256, hs⟩, Finset.mem_univ _, mem_col.mpr hc⟩

theorem full_idle (c : Dev nD) (g q : Fin 4) : Full m c g q ⊢ Idle m c q := by
  unfold Full Idle
  iintro ⟨Hw, ⟨%f, -, Hb⟩, Hz⟩
  isplitl [Hw]; · iexact Hw
  isplitl [Hb]; · iexists f; iexact Hb
  iexact Hz

theorem dotFirst_runs (c : Dev nD) (q : Fin 4) (K : Body F) (Q : PUnit → sProp 𝕄) :
    iprop(xgPts m c 0 ∗ Full m c (grp c 0) q ∗ yIs m c (Lv 0 q.val))
      ⊢ iprop((xgPts m c 0 ∗ Idle m c q ∗ yIs m c (Lv 0 (q.val + 1)) -∗ runs c K Q)
          -∗ runs c (dotFirst c q K) Q) := by
  unfold dotFirst xgPts Full yIs
  iintro ⟨Hx, ⟨Hw, ⟨%f, %hf, Hb⟩, Hz⟩, ⟨%g, %hg, Hy⟩⟩ Hk
  iapply (wp_load 𝒱₀ (c : Thread nD τ) none Set.univ (m := xrM) (xg_setOn c 0)) $$ Hx
  iintro Hx
  iapply (wp_load 𝒱₀ (c : Thread nD τ) none Set.univ (m := wbM) (wb_setOn q)) $$ Hb
  iintro Hb
  iapply (wp_load 𝒱₀ (c : Thread nD τ) none Set.univ (m := yM) (Finset.subset_univ _)) $$ Hy
  iintro Hy
  iapply (wp_store 𝒱₀ (c : Thread nD τ) none Set.univ (m := yM) (r := yRect q) (Mk := Finset.univ)
    (Finset.subset_univ _)) $$ Hy
  iintro Hy
  iapply Hk
  isplitl [Hx]; · iexact Hx
  isplitl [Hw Hb Hz]
  · unfold Idle
    isplitl [Hw]; · iexact Hw
    isplitl [Hb]; · iexists f; iexact Hb
    iexact Hz
  iexists ((yM.access (yRect q)).write (Elt F) g (initPay (XG m c 0)
    (wbM.view.readAt (Elt F) (wbRect q).toLoadRect f)) Finset.univ)
  isplitr
  · ipureintro
    have e : initPay (XG m c 0) (wbM.view.readAt (Elt F) (wbRect q).toLoadRect f) = YT m c q 0 := by
      unfold initPay
      rw [dot_eq, hf]
      rfl
    rw [e]
    exact y_step m c 0 q g hg
  · iexact Hy

theorem dotNext_runs (c : Dev nD) (j q : Fin 4) {n : ℕ} (hj : j.val = n + 1) (K : Body F)
    (Q : PUnit → sProp 𝕄) :
    iprop(xgPts m c j ∗ Full m c (grp c j) q ∗ yIs m c (Lv j.val q.val))
      ⊢ iprop((xgPts m c j ∗ Idle m c q ∗ yIs m c (Lv j.val (q.val + 1)) -∗ runs c K Q)
          -∗ runs c (dotNext c j q K) Q) := by
  unfold dotNext xgPts Full yIs
  iintro ⟨Hx, ⟨Hw, ⟨%f, %hf, Hb⟩, Hz⟩, ⟨%g, %hg, Hy⟩⟩ Hk
  iapply (wp_load 𝒱₀ (c : Thread nD τ) none Set.univ (m := xrM) (xg_setOn c j)) $$ Hx
  iintro Hx
  iapply (wp_load 𝒱₀ (c : Thread nD τ) none Set.univ (m := wbM) (wb_setOn q)) $$ Hb
  iintro Hb
  iapply (wp_load 𝒱₀ (c : Thread nD τ) none Set.univ (m := yM) (Finset.subset_univ _)) $$ Hy
  iintro Hy
  iapply (wp_load 𝒱₀ (c : Thread nD τ) none Set.univ (m := yM) (Finset.subset_univ _)) $$ Hy
  iintro Hy
  iapply (wp_store 𝒱₀ (c : Thread nD τ) none Set.univ (m := yM) (r := yRect q) (Mk := Finset.univ)
    (Finset.subset_univ _)) $$ Hy
  iintro Hy
  iapply Hk
  isplitl [Hx]; · iexact Hx
  isplitl [Hw Hb Hz]
  · unfold Idle
    isplitl [Hw]; · iexact Hw
    isplitl [Hb]; · iexists f; iexact Hb
    iexact Hz
  iexists ((yM.access (yRect q)).write (Elt F) g
    (accPay (yM.view.readAt (Elt F) (yRect q).toLoadRect g) (XG m c j)
      (wbM.view.readAt (Elt F) (wbRect q).toLoadRect f)) Finset.univ)
  isplitr
  · ipureintro
    have hl : Lv j.val q.val q = n + 1 := by
      unfold Lv; rw [if_neg (Nat.lt_irrefl _)]; exact hj
    have hr := hg q (by rw [hl]; exact Nat.succ_ne_zero n)
    rw [hl] at hr
    have e : accPay (yM.view.readAt (Elt F) (yRect q).toLoadRect g) (XG m c j)
        (wbM.view.readAt (Elt F) (wbRect q).toLoadRect f) = YT m c q j.val := by
      unfold accPay
      rw [dot_eq, hf, hr, YT_next m c j q hj]
      rfl
    rw [e]
    exact y_step m c j.val q g hg
  · iexact Hy

end Cert.KernelIdeal.Own

end
-- ==== Proof.Phases.lean ====
module

public import proofs.«01_k».proof.Proof.Tiles

/-! # The phases of the body

The rounds of the product, the device's own maximum, and the scaled result, each from the steps. -/

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (N : Dev nD × CK → ℕ)

theorem idle_2 (c : Dev nD) : Idle m c 2 = Idle m c 0 := rfl
theorem idle_3 (c : Dev nD) : Idle m c 3 = Idle m c 1 := rfl

/-! ## A tile of a round -/

theorem stepFirst_runs (c : Dev nD) (q : Fin 4) (K : Body F) (Q : PUnit → sProp 𝕄) :
    iprop(env m N ∗ ow c (OM c) ∗ Fly m c (grp c 0) q ∗ xgPts m c 0 ∗ yIs m c (Lv 0 q.val))
      ⊢ iprop((ow c (OM c) ∗ Idle m c q ∗ xgPts m c 0 ∗ yIs m c (Lv 0 (q.val + 1)) -∗ runs c K Q)
          -∗ runs c (waitW q (dotFirst c q K)) Q) := by
  iintro ⟨#He, Ho, HF, Hx, Hy⟩ Hk
  iapply (waitW_runs m N c (grp c 0) q ((above_OM c).mono (Nat.zero_le 2)) _ Q) $$ [Ho HF]
  · isplitr; · iexact He
    isplitl [Ho] <;> iassumption
  iintro ⟨Ho, HF⟩
  iapply (dotFirst_runs m c q K Q) $$ [Hx HF Hy]
  · isplitl [Hx]; · iexact Hx
    isplitl [HF] <;> iassumption
  iintro ⟨Hx, HI, Hy⟩
  iapply Hk
  isplitl [Ho]; · iexact Ho
  isplitl [HI]; · iexact HI
  isplitl [Hx]; · iexact Hx
  iexact Hy

theorem stepNext_runs (c : Dev nD) (j q : Fin 4) {n : ℕ} (hj : j.val = n + 1) (K : Body F)
    (Q : PUnit → sProp 𝕄) :
    iprop(env m N ∗ ow c (OM c) ∗ Fly m c (grp c j) q ∗ xgPts m c j ∗ yIs m c (Lv j.val q.val))
      ⊢ iprop((ow c (OM c) ∗ Idle m c q ∗ xgPts m c j ∗ yIs m c (Lv j.val (q.val + 1)) -∗ runs c K Q)
          -∗ runs c (waitW q (dotNext c j q K)) Q) := by
  iintro ⟨#He, Ho, HF, Hx, Hy⟩ Hk
  iapply (waitW_runs m N c (grp c j) q ((above_OM c).mono (Nat.zero_le 2)) _ Q) $$ [Ho HF]
  · isplitr; · iexact He
    isplitl [Ho] <;> iassumption
  iintro ⟨Ho, HF⟩
  iapply (dotNext_runs m c j q hj K Q) $$ [Hx HF Hy]
  · isplitl [Hx]; · iexact Hx
    isplitl [HF] <;> iassumption
  iintro ⟨Hx, HI, Hy⟩
  iapply Hk
  isplitl [Ho]; · iexact Ho
  isplitl [HI]; · iexact HI
  isplitl [Hx]; · iexact Hx
  iexact Hy

/-! ## The rounds -/

/-- Before the rows of round `j` have been waited for. -/
def awaits (c : Dev nD) (j : Fin 4) : sProp 𝕄 := bigSep Finset.univ fun s => Await m c (src c j s)
/-- The semaphores of round `j`'s rows at rest. -/
def rowSems (c : Dev nD) (j : Fin 4) : sProp 𝕄 := bigSep Finset.univ fun s => rowSem c (src c j s)

theorem roundFirst_runs (c : Dev nD) (K : Body F) (Q : PUnit → sProp 𝕄) :
    iprop(env m N ∗ ow c (OM c) ∗ Fly m c (grp c 0) 0 ∗ Idle m c 1 ∗ awaits m c 0
        ∗ yIs m c (Lv 0 0))
      ⊢ iprop((ow c (OM c) ∗ Fly m c (grp c 1) 0 ∗ Idle m c 1 ∗ xgPts m c 0 ∗ rowSems c 0
          ∗ yIs m c (Lv 1 0) -∗ runs c K Q) -∗ runs c (roundFirst c K) Q) := by
  unfold roundFirst awaits rowSems
  iintro ⟨#He, Ho, F0, I1, Ha, Hy⟩ Hk
  iapply (startW_runs m c 0 1 _ Q) $$ I1
  iintro F1
  iapply (recvs_runs m N c 0 (above_OM c) _ Q) $$ [Ho Ha]
  · isplitr; · iexact He
    isplitl [Ho] <;> iassumption
  iintro ⟨Ho, Hx, Hz⟩
  iapply (stepFirst_runs m N c 0 _ Q) $$ [Ho F0 Hx Hy]
  · isplitr; · iexact He
    isplitl [Ho]; · iexact Ho
    isplitl [F0]; · iexact F0
    isplitl [Hx]; · iexact Hx
    iexact Hy
  iintro ⟨Ho, I, Hx, Hy⟩
  iapply (startW_runs m c 0 2 _ Q) $$ [I]
  · rw [idle_2]; iexact I
  iintro F2
  iapply (stepFirst_runs m N c 1 _ Q) $$ [Ho F1 Hx Hy]
  · isplitr; · iexact He
    isplitl [Ho]; · iexact Ho
    isplitl [F1]; · iexact F1
    isplitl [Hx]; · iexact Hx
    iexact Hy
  iintro ⟨Ho, I, Hx, Hy⟩
  iapply (startW_runs m c 0 3 _ Q) $$ [I]
  · rw [idle_3]; iexact I
  iintro F3
  iapply (stepFirst_runs m N c 2 _ Q) $$ [Ho F2 Hx Hy]
  · isplitr; · iexact He
    isplitl [Ho]; · iexact Ho
    isplitl [F2]; · iexact F2
    isplitl [Hx]; · iexact Hx
    iexact Hy
  iintro ⟨Ho, I, Hx, Hy⟩
  iapply (startW_runs m c 1 0 _ Q) $$ [I]
  · rw [← idle_2]; iexact I
  iintro F0
  iapply (stepFirst_runs m N c 3 _ Q) $$ [Ho F3 Hx Hy]
  · isplitr; · iexact He
    isplitl [Ho]; · iexact Ho
    isplitl [F3]; · iexact F3
    isplitl [Hx]; · iexact Hx
    iexact Hy
  iintro ⟨Ho, I, Hx, Hy⟩
  iapply Hk
  isplitl [Ho]; · iexact Ho
  isplitl [F0]; · iexact F0
  isplitl [I]; · rw [← idle_3]; iexact I
  isplitl [Hx]; · iexact Hx
  isplitl [Hz]; · iexact Hz
  rw [← Lv_next 0]
  iexact Hy

theorem roundNext_runs (c : Dev nD) (j : Fin 4) {n : ℕ} (hj : j.val = n + 1) (K : Body F)
    (Q : PUnit → sProp 𝕄) :
    iprop(env m N ∗ ow c (OM c) ∗ Fly m c (grp c j) 0 ∗ Idle m c 1 ∗ awaits m c j
        ∗ yIs m c (Lv j.val 0))
      ⊢ iprop((ow c (OM c) ∗ Fly m c (grp c j) 3 ∗ Idle m c 0 ∗ xgPts m c j ∗ rowSems c j
          ∗ yIs m c (Lv j.val 3) -∗ runs c K Q) -∗ runs c (roundNext c j K) Q) := by
  unfold roundNext awaits rowSems
  iintro ⟨#He, Ho, F0, I1, Ha, Hy⟩ Hk
  iapply (startW_runs m c j 1 _ Q) $$ I1
  iintro F1
  iapply (recvs_runs m N c j (above_OM c) _ Q) $$ [Ho Ha]
  · isplitr; · iexact He
    isplitl [Ho] <;> iassumption
  iintro ⟨Ho, Hx, Hz⟩
  iapply (stepNext_runs m N c j 0 hj _ Q) $$ [Ho F0 Hx Hy]
  · isplitr; · iexact He
    isplitl [Ho]; · iexact Ho
    isplitl [F0]; · iexact F0
    isplitl [Hx]; · iexact Hx
    iexact Hy
  iintro ⟨Ho, I, Hx, Hy⟩
  iapply (startW_runs m c j 2 _ Q) $$ [I]
  · rw [idle_2]; iexact I
  iintro F2
  iapply (stepNext_runs m N c j 1 hj _ Q) $$ [Ho F1 Hx Hy]
  · isplitr; · iexact He
    isplitl [Ho]; · iexact Ho
    isplitl [F1]; · iexact F1
    isplitl [Hx]; · iexact Hx
    iexact Hy
  iintro ⟨Ho, I, Hx, Hy⟩
  iapply (startW_runs m c j 3 _ Q) $$ [I]
  · rw [idle_3]; iexact I
  iintro F3
  iapply (stepNext_runs m N c j 2 hj _ Q) $$ [Ho F2 Hx Hy]
  · isplitr; · iexact He
    isplitl [Ho]; · iexact Ho
    isplitl [F2]; · iexact F2
    isplitl [Hx]; · iexact Hx
    iexact Hy
  iintro ⟨Ho, I, Hx, Hy⟩
  iapply Hk
  isplitl [Ho]; · iexact Ho
  isplitl [F3]; · iexact F3
  isplitl [I]; · rw [← idle_2]; iexact I
  isplitl [Hx]; · iexact Hx
  isplitl [Hz]; · iexact Hz
  iexact Hy

theorem roundLast_runs (c : Dev nD) (j : Fin 4) {n : ℕ} (hj : j.val = n + 1) (K : Body F)
    (Q : PUnit → sProp 𝕄) :
    iprop(env m N ∗ ow c (OM c) ∗ Fly m c (grp c j) 3 ∗ xgPts m c j ∗ yIs m c (Lv j.val 3))
      ⊢ iprop((ow c (OM c) ∗ Idle m c 1 ∗ xgPts m c j ∗ yIs m c (Lv (j.val + 1) 0) -∗ runs c K Q)
          -∗ runs c (roundLast c j K) Q) := by
  unfold roundLast
  rw [← Lv_next, ← idle_3]
  exact stepNext_runs m N c j 3 hj K Q

/-! ## The device's own maximum -/

theorem whole_ab (f w : (cc0_scratch4 : Ref sig .tc).ty.Contents (Elt F)) :
    (abM.access (Rect.unit (s := S8x128) ![0, 0] S8x128.size inb_S8x128_S8x128_0_0) :
      View sig .tc _ _ _).write (Elt F) f w Finset.univ = w :=
  Memref.write_access_unit_zero_univ (Elt F) cc0_scratch4
    (funext fun a => by fin_cases a <;> rfl) _ f w

theorem localMax_runs (c : Dev nD) (K : F .f32 → Body F) (Q : PUnit → sProp 𝕄) :
    iprop(yIs m c (Lv 4 0) ∗ ∃ f, ((c : Thread nD τ).loc cc0_scratch4) ↦{fullShare} f)
      ⊢ iprop((yIs m c (Lv 4 0)
            ∗ (((c : Thread nD τ).loc cc0_scratch4) ↦{fullShare} fun _ => lmax m c)
            -∗ runs c (K (lmax m c)) Q) -∗ runs c (localMax K) Q) := by
  unfold localMax yIs
  iintro ⟨⟨%f, %hf, Hy⟩, ⟨%g, Hb⟩⟩ Hk
  iapply (wp_load 𝒱₀ (c : Thread nD τ) none Set.univ (m := yM) (Finset.subset_univ _)) $$ Hy
  iintro Hy
  iapply (wp_load 𝒱₀ (c : Thread nD τ) none Set.univ (m := yM) (Finset.subset_univ _)) $$ Hy
  iintro Hy
  iapply (wp_load 𝒱₀ (c : Thread nD τ) none Set.univ (m := yM) (Finset.subset_univ _)) $$ Hy
  iintro Hy
  iapply (wp_load 𝒱₀ (c : Thread nD τ) none Set.univ (m := yM) (Finset.subset_univ _)) $$ Hy
  iintro Hy
  have h (q : Fin 4) : yM.view.readAt (Elt F) (yRect q).toLoadRect f = YT m c q 3 :=
    hf q (by unfold Lv; rw [if_neg (Nat.not_lt_zero _)]; decide)
  rw [h 0, h 1, h 2, h 3]
  iapply (wp_load 𝒱₀ (c : Thread nD τ) none Set.univ (m := abM) (Finset.subset_univ _)) $$ Hb
  iintro Hb
  iapply (wp_store 𝒱₀ (c : Thread nD τ) none Set.univ (m := abM)
    (r := Rect.unit (s := S8x128) ![0, 0] S8x128.size inb_S8x128_S8x128_0_0) (Mk := Finset.univ)
    (Finset.subset_univ _)) $$ Hb
  iintro Hb
  rw [whole_ab, spread_eq]
  iapply Hk
  isplitl [Hy]
  · iexists f
    isplitr; · ipureintro; exact hf
    iexact Hy
  · iexact Hb

/-! ## The scaled result -/

/-- The tiles of the result below `n` are in place. -/
def oIs (c : Dev nD) (n : ℕ) : sProp 𝕄 :=
  iprop(∃ f : Buf (Elt F) ((c : Thread nD τ).loc cc0_stg1_0),
    ⌜∀ q : Fin 4, q.val < n →
      oM.view.readAt (Elt F) (yRect q).toLoadRect f = outPay (gmax m c) (YT m c q 3)⌝
    ∗ ((c : Thread nD τ).loc cc0_stg1_0) ↦{fullShare} f)

omit [FloatOps F] in
theorem o_read_same (q : Fin 4) (f : (cc0_stg1_0 : Ref sig .tc).ty.Contents (Elt F))
    (v : S256x2048.Idx → Elt F .f32) :
    oM.view.readAt (Elt F) (yRect q).toLoadRect
      ((oM.access (yRect q)).write (Elt F) f v Finset.univ) = v := by
  rw [View.readAt_rect]; exact View.read_write_univ _ _

omit [FloatOps F] in
theorem o_read_other {q q' : Fin 4} (h : q' ≠ q)
    (f : (cc0_stg1_0 : Ref sig .tc).ty.Contents (Elt F)) (v : S256x2048.Idx → Elt F .f32) :
    oM.view.readAt (Elt F) (yRect q').toLoadRect
      ((oM.access (yRect q)).write (Elt F) f v Finset.univ)
      = oM.view.readAt (Elt F) (yRect q').toLoadRect f := by
  rw [View.readAt_rect, View.readAt_rect]
  refine View.read_congr fun i hi => View.write_of_not_mem _ _ _ ?_
  intro hm
  obtain ⟨x, -, hx⟩ := Finset.mem_map.mp hi
  obtain ⟨y, -, hy⟩ := Finset.mem_map.mp hm
  exact tile_disj h x y (hx.trans hy.symm)

theorem outTile_runs (c : Dev nD) (q : Fin 4) (K : Body F) (Q : PUnit → sProp 𝕄) :
    iprop(yIs m c (Lv 4 0) ∗ oIs m c q.val)
      ⊢ iprop((yIs m c (Lv 4 0) ∗ oIs m c (q.val + 1) -∗ runs c K Q)
          -∗ runs c (outTile (gmax m c) q K) Q) := by
  unfold outTile yIs oIs
  iintro ⟨⟨%f, %hf, Hy⟩, ⟨%g, %hg, Ho⟩⟩ Hk
  iapply (wp_load 𝒱₀ (c : Thread nD τ) none Set.univ (m := yM) (Finset.subset_univ _)) $$ Hy
  iintro Hy
  have h : yM.view.readAt (Elt F) (yRect q).toLoadRect f = YT m c q 3 :=
    hf q (by unfold Lv; rw [if_neg (Nat.not_lt_zero _)]; decide)
  rw [h]
  iapply (wp_load 𝒱₀ (c : Thread nD τ) none Set.univ (m := oM) (Finset.subset_univ _)) $$ Ho
  iintro Ho
  iapply (wp_store 𝒱₀ (c : Thread nD τ) none Set.univ (m := oM) (r := yRect q) (Mk := Finset.univ)
    (Finset.subset_univ _)) $$ Ho
  iintro Ho
  iapply Hk
  isplitl [Hy]
  · iexists f
    isplitr; · ipureintro; exact hf
    iexact Hy
  · iexists ((oM.access (yRect q)).write (Elt F) g (outPay (gmax m c) (YT m c q 3)) Finset.univ)
    isplitr
    · ipureintro
      intro p hp
      by_cases e : p = q
      · subst e; exact o_read_same _ _ _
      · have e' : p.val ≠ q.val := fun e' => e (Fin.ext e')
        rw [o_read_other e]
        exact hg p (by omega)
    · iexact Ho

/-- The result with all its tiles in place. -/
theorem out_done (c : Dev nD) :
    oIs m c 4 ⊢ (((c : Thread nD τ).loc cc0_stg1_0) ↦{fullShare} OUT m c : sProp 𝕄) := by
  unfold oIs
  iintro ⟨%f, %hf, H⟩
  have e : f = OUT m c := tile_ext f _ fun q i => congrFun (hf q q.isLt) i
  rw [e]
  iexact H

theorem outTiles_runs (c : Dev nD) (K : Body F) (Q : PUnit → sProp 𝕄) :
    iprop(yIs m c (Lv 4 0) ∗ ∃ f, ((c : Thread nD τ).loc cc0_stg1_0) ↦{fullShare} f)
      ⊢ iprop((yIs m c (Lv 4 0) ∗ (((c : Thread nD τ).loc cc0_stg1_0) ↦{fullShare} OUT m c)
          -∗ runs c K Q) -∗ runs c (outTiles (gmax m c) K) Q) := by
  unfold outTiles
  iintro ⟨Hy, ⟨%f, Ho⟩⟩ Hk
  iapply (outTile_runs m c 0 _ Q) $$ [Hy Ho]
  · isplitl [Hy]; · iexact Hy
    unfold oIs
    iexists f
    isplitr; · ipureintro; exact fun q h => absurd h (Nat.not_lt_zero _)
    iexact Ho
  iintro ⟨Hy, Ho⟩
  iapply (outTile_runs m c 1 _ Q) $$ [Hy Ho]
  · isplitl [Hy]; · iexact Hy
    iexact Ho
  iintro ⟨Hy, Ho⟩
  iapply (outTile_runs m c 2 _ Q) $$ [Hy Ho]
  · isplitl [Hy]; · iexact Hy
    iexact Ho
  iintro ⟨Hy, Ho⟩
  iapply (outTile_runs m c 3 _ Q) $$ [Hy Ho]
  · isplitl [Hy]; · iexact Hy
    iexact Ho
  iintro ⟨Hy, Ho⟩
  iapply Hk
  isplitl [Hy]; · iexact Hy
  iapply (out_done m c)
  iexact Ho

end Cert.KernelIdeal.Own

end
-- ==== Proof.Deal.lean ====
module

public import proofs.«01_k».proof.Proof.Phases

/-! # What a device starts from and how it is dealt to the phases

The buffers cut into the parts that are handed over and put together again, and the tokens,
positions and credits gathered for each phase. -/

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (N : Dev nD × CK → ℕ)

/-! ## All devices as a device and its peers, and by rounds -/

omit [FloatOps F] in
theorem bigSep_rev (Φ : Fin 15 → sProp 𝕄) :
    (bigSep Finset.univ fun r : Fin 15 => Φ r.rev) = bigSep Finset.univ Φ :=
  (bigSep_univ_equiv Fin.revPerm Φ).symm

/-- A device and its peers. -/
def devOf (c : Dev nD) : Unit ⊕ Fin 15 → Dev nD
  | .inl _ => c
  | .inr r => peer c r
theorem devOf_bij : ∀ c : Dev nD, Function.Bijective (devOf c) := fun c => by
  rw [Fintype.bijective_iff_injective_and_card]
  refine ⟨?_, rfl⟩
  rintro (⟨⟩ | r) (⟨⟩ | r') h
  · rfl
  · exact absurd h.symm (peer_ne c r')
  · exact absurd h (peer_ne c r)
  · exact congrArg _ (peer_inj_right c r r' h)
omit [FloatOps F] in
theorem by_peers (c : Dev nD) (Φ : Dev nD → sProp 𝕄) :
    bigSep Finset.univ Φ = iprop(Φ c ∗ bigSep Finset.univ fun r => Φ (peer c r)) := by
  rw [bigSep_univ_equiv (Equiv.ofBijective _ (devOf_bij c)) Φ, bigSep_univ_sum]
  have h : (bigSep Finset.univ fun a : Unit => Φ (Equiv.ofBijective _ (devOf_bij c) (.inl a))) = Φ c :=
    bigSep_singleton (i := ())
  rw [h]
  rfl

theorem src_bij (c : Dev nD) : Function.Bijective (fun p : Fin 4 × Fin 4 => src c p.1 p.2) := by
  rw [Fintype.bijective_iff_injective_and_card]
  refine ⟨?_, rfl⟩
  rintro ⟨j, s⟩ ⟨j', s'⟩ h
  have h : 4 * ((c.val / 4 + j.val) % 4) + s.val = 4 * ((c.val / 4 + j'.val) % 4) + s'.val :=
    congrArg Fin.val h
  have h1 : s = s' := Fin.ext (by omega)
  have h2 : j = j' := Fin.ext (by omega)
  rw [h1, h2]
omit [FloatOps F] in
theorem by_rounds (c : Dev nD) (Φ : Dev nD → sProp 𝕄) :
    bigSep Finset.univ Φ
      = bigSep Finset.univ fun j : Fin 4 => bigSep Finset.univ fun s : Fin 4 => Φ (src c j s) := by
  rw [bigSep_univ_equiv (Equiv.ofBijective _ (src_bij c)) Φ, bigSep_univ_prod]
  rfl

/-! ## The rounds together -/

theorem rounds_runs (c : Dev nD) (K : Body F) (Q : PUnit → sProp 𝕄) :
    iprop(env m N ∗ ow c (OM c) ∗ Idle m c 0 ∗ Idle m c 1
        ∗ (bigSep Finset.univ fun j => awaits m c j) ∗ yIs m c (Lv 0 0))
      ⊢ iprop((ow c (OM c) ∗ Idle m c 0 ∗ Idle m c 1 ∗ (bigSep Finset.univ fun j => xgPts m c j)
          ∗ (bigSep Finset.univ fun j => rowSems c j) ∗ yIs m c (Lv 4 0) -∗ runs c K Q)
        -∗ runs c (startW c 0 0 <| roundFirst c <| roundNext c 1 <| startW c 2 0 <|
          roundLast c 1 <| roundNext c 2 <| startW c 3 0 <| roundLast c 2 <| roundNext c 3 <|
          roundLast c 3 K) Q) := by
  rw [bigSep_fin4, bigSep_fin4, bigSep_fin4]
  iintro ⟨#He, Ho, I0, I1, ⟨A0, A1, A2, A3⟩, Hy⟩ Hk
  iapply (startW_runs m c 0 0 _ Q) $$ I0
  iintro F0
  iapply (roundFirst_runs m N c _ Q) $$ [Ho F0 I1 A0 Hy]
  · isplitr; · iexact He
    isplitl [Ho]; · iexact Ho
    isplitl [F0]; · iexact F0
    isplitl [I1]; · iexact I1
    isplitl [A0]; · iexact A0
    iexact Hy
  iintro ⟨Ho, F0, I1, X0, Z0, Hy⟩
  iapply (roundNext_runs m N c 1 (n := 0) rfl _ Q) $$ [Ho F0 I1 A1 Hy]
  · isplitr; · iexact He
    isplitl [Ho]; · iexact Ho
    isplitl [F0]; · iexact F0
    isplitl [I1]; · iexact I1
    isplitl [A1]; · iexact A1
    iexact Hy
  iintro ⟨Ho, F3, I0, X1, Z1, Hy⟩
  iapply (startW_runs m c 2 0 _ Q) $$ I0
  iintro F0
  iapply (roundLast_runs m N c 1 (n := 0) rfl _ Q) $$ [Ho F3 X1 Hy]
  · isplitr; · iexact He
    isplitl [Ho]; · iexact Ho
    isplitl [F3]; · iexact F3
    isplitl [X1]; · iexact X1
    iexact Hy
  iintro ⟨Ho, I1, X1, Hy⟩
  iapply (roundNext_runs m N c 2 (n := 1) rfl _ Q) $$ [Ho F0 I1 A2 Hy]
  · isplitr; · iexact He
    isplitl [Ho]; · iexact Ho
    isplitl [F0]; · iexact F0
    isplitl [I1]; · iexact I1
    isplitl [A2]; · iexact A2
    iexact Hy
  iintro ⟨Ho, F3, I0, X2, Z2, Hy⟩
  iapply (startW_runs m c 3 0 _ Q) $$ I0
  iintro F0
  iapply (roundLast_runs m N c 2 (n := 1) rfl _ Q) $$ [Ho F3 X2 Hy]
  · isplitr; · iexact He
    isplitl [Ho]; · iexact Ho
    isplitl [F3]; · iexact F3
    isplitl [X2]; · iexact X2
    iexact Hy
  iintro ⟨Ho, I1, X2, Hy⟩
  iapply (roundNext_runs m N c 3 (n := 2) rfl _ Q) $$ [Ho F0 I1 A3 Hy]
  · isplitr; · iexact He
    isplitl [Ho]; · iexact Ho
    isplitl [F0]; · iexact F0
    isplitl [I1]; · iexact I1
    isplitl [A3]; · iexact A3
    iexact Hy
  iintro ⟨Ho, F3, I0, X3, Z3, Hy⟩
  iapply (roundLast_runs m N c 3 (n := 2) rfl _ Q) $$ [Ho F3 X3 Hy]
  · isplitr; · iexact He
    isplitl [Ho]; · iexact Ho
    isplitl [F3]; · iexact F3
    isplitl [X3]; · iexact X3
    iexact Hy
  iintro ⟨Ho, I1, X3, Hy⟩
  iapply Hk
  isplitl [Ho]; · iexact Ho
  isplitl [I0]; · iexact I0
  isplitl [I1]; · iexact I1
  isplitl [X0 X1 X2 X3]
  · isplitl [X0]; · iexact X0
    isplitl [X1]; · iexact X1
    isplitl [X2]; · iexact X2
    iexact X3
  isplitl [Z0 Z1 Z2 Z3]
  · isplitl [Z0]; · iexact Z0
    isplitl [Z1]; · iexact Z1
    isplitl [Z2]; · iexact Z2
    iexact Z3
  iexact Hy

/-! ## What a device starts from and ends with -/

/-- Its positions on its own cells. -/
def posRes (c : Dev nD) : sProp 𝕄 :=
  iprop(atPos ER (barCell c) 0 ∅ 0
    ∗ (bigSep Finset.univ fun r => atPos ER (sentCell c r) 0 ∅ 0)
    ∗ (bigSep Finset.univ fun r => atPos ER (rowCell c r) 0 ∅ 0)
    ∗ (bigSep Finset.univ fun r => atPos ER (mSentCell c r) 0 ∅ 0)
    ∗ (bigSep Finset.univ fun r => atPos ER (maxCell c r) 0 ∅ 0))
/-- The duties it pays. -/
def tokRes (c : Dev nD) : sProp 𝕄 :=
  iprop((bigSep Finset.univ fun r => dutyTok ER (barCell (peer c r)) 0 r)
    ∗ (bigSep Finset.univ fun r => dutyTok ER (sentCell c r) 0 0)
    ∗ (bigSep Finset.univ fun r => dutyTok ER (rowCell (peer c r) r) 0 0)
    ∗ (bigSep Finset.univ fun r => dutyTok ER (mSentCell c r) 0 0)
    ∗ (bigSep Finset.univ fun r => dutyTok ER (maxCell (peer c r) r) 0 0))
/-- The credits of the cells that others pay. -/
def credRes (c : Dev nD) : sProp 𝕄 :=
  iprop(cred (tallyAt (barCell c) () 15)
    ∗ (bigSep Finset.univ fun r => cred (tallyAt (rowCell c r) () NX))
    ∗ (bigSep Finset.univ fun r => cred (tallyAt (maxCell c r) () NM)))
/-- A whole buffer, whatever it holds. -/
def anyBuf (c : Dev nD) (b : Ref sig .tc) : sProp 𝕄 :=
  iprop(∃ f : Buf (Elt F) ((c : Thread nD τ).loc b), ((c : Thread nD τ).loc b) ↦{fullShare} f)
/-- Its scratch buffers. -/
def bufRes (c : Dev nD) : sProp 𝕄 :=
  iprop(anyBuf c cc0_scratch0 ∗ anyBuf c cc0_scratch1 ∗ anyBuf c cc0_scratch2 ∗ anyBuf c cc0_scratch3
    ∗ anyBuf c cc0_scratch4 ∗ anyBuf c cc0_scratch5)
/-- Its copy of `w`. -/
def wFull (c : Dev nD) : sProp 𝕄 := ((c : Thread nD τ).loc main_arg1) ↦{fullShare} ws m c
/-- The semaphores of its copies, at rest. -/
def semRes (c : Dev nD) : sProp 𝕄 :=
  iprop((bigSep Finset.univ fun r => semVal (sentCell c r) 0)
    ∗ (bigSep Finset.univ fun r => semVal (rowCell c r) 0)
    ∗ (bigSep Finset.univ fun r => semVal (mSentCell c r) 0)
    ∗ (bigSep Finset.univ fun r => semVal (maxCell c r) 0))

/-! ## Cutting the buffers and putting them together -/

section Cut

variable {ℓ : Loc nD τ sig} {I : Type} [Fintype I] [DecidableEq I]

omit [FloatOps F] in
theorem uncut_any (K : I → Finset (Idx ℓ)) (hK : ∀ i j, i ≠ j → Disjoint (K i) (K j)) :
    (iprop((bigSep Finset.univ fun i => iprop(∃ f, ℓ ↦[K i]{fullShare} f))
        ∗ (∃ f, ℓ ↦[Finset.univ \ Finset.univ.biUnion K]{fullShare} f)) : sProp 𝕄)
      ⊢ iprop(∃ f, ℓ ↦{fullShare} f) := by
  iintro ⟨H1, ⟨%f, H2⟩⟩
  haveI : Nonempty (Buf (Elt F) ℓ) := ⟨f⟩
  iapply (uncut K hK)
  isplitl [H1]; · iexact H1
  iexists f; iexact H2

end Cut

/-- What is left of a buffer once the parts in use are taken. -/
def sbRest (c : Dev nD) : sProp 𝕄 :=
  iprop(∃ f, ((c : Thread nD τ).loc cc0_scratch0)
    ↦[Finset.univ \ Finset.univ.biUnion fun r : Fin 15 => (sbSlot r).view.set]{fullShare} f)
def acRest (c : Dev nD) : sProp 𝕄 :=
  iprop(∃ f, ((c : Thread nD τ).loc cc0_scratch5)
    ↦[Finset.univ \ Finset.univ.biUnion fun r : Fin 15 => (acSlot r).view.set]{fullShare} f)
def xrRest (c : Dev nD) : sProp 𝕄 :=
  iprop(∃ f, ((c : Thread nD τ).loc cc0_scratch1)
    ↦[Finset.univ \ Finset.univ.biUnion fun s : Dev nD => (xrCol s).view.set]{fullShare} f)
def wbRest (c : Dev nD) : sProp 𝕄 :=
  iprop(∃ f, ((c : Thread nD τ).loc cc0_scratch2)
    ↦[Finset.univ \ Finset.univ.biUnion fun p : Fin 2 => (wbSlot (slotTile p)).view.set]{fullShare} f)
/-- A slot for tiles of `w`. -/
def wbAny (c : Dev nD) (q : Fin 4) : sProp 𝕄 :=
  iprop(∃ f, (wbSlot q).view.loc (c : Thread nD τ) ↦[(wbSlot q).view.set]{fullShare} f)

theorem sb_cut (c : Dev nD) :
    anyBuf (F := F) c cc0_scratch0 ⊢ iprop((bigSep Finset.univ fun r => sbPts c r) ∗ sbRest c) :=
  cut (ℓ := (c : Thread nD τ).loc cc0_scratch0) (fun r : Fin 15 => (sbSlot r).view.set) sb_disj
theorem sb_uncut (c : Dev nD) :
    iprop((bigSep Finset.univ fun r => sbPts c r) ∗ sbRest c) ⊢ anyBuf (F := F) c cc0_scratch0 :=
  uncut_any (ℓ := (c : Thread nD τ).loc cc0_scratch0) (fun r : Fin 15 => (sbSlot r).view.set) sb_disj
theorem ac_cut (c : Dev nD) :
    anyBuf (F := F) c cc0_scratch5 ⊢ iprop((bigSep Finset.univ fun r => acAny c r) ∗ acRest c) :=
  cut (ℓ := (c : Thread nD τ).loc cc0_scratch5) (fun r : Fin 15 => (acSlot r).view.set) ac_disj
theorem ac_uncut (c : Dev nD) :
    iprop((bigSep Finset.univ fun r => acAny c r) ∗ acRest c) ⊢ anyBuf (F := F) c cc0_scratch5 :=
  uncut_any (ℓ := (c : Thread nD τ).loc cc0_scratch5) (fun r : Fin 15 => (acSlot r).view.set) ac_disj
theorem xr_cut (c : Dev nD) :
    anyBuf (F := F) c cc0_scratch1 ⊢ iprop((bigSep Finset.univ fun s => xrAny c s) ∗ xrRest c) :=
  cut (ℓ := (c : Thread nD τ).loc cc0_scratch1) (fun s : Dev nD => (xrCol s).view.set) xr_disj
theorem xr_uncut (c : Dev nD) :
    iprop((bigSep Finset.univ fun s => xrAny c s) ∗ xrRest c) ⊢ anyBuf (F := F) c cc0_scratch1 :=
  uncut_any (ℓ := (c : Thread nD τ).loc cc0_scratch1) (fun s : Dev nD => (xrCol s).view.set) xr_disj

omit [FloatOps F] in
theorem bigSep_fin2 (Φ : Fin 2 → sProp 𝕄) : bigSep Finset.univ Φ = iprop(Φ 0 ∗ Φ 1) :=
  bigSep_univ_eq_bigSepL [0, 1] (by decide) (by decide) Φ

theorem wb_two (c : Dev nD) :
    (bigSep Finset.univ fun p : Fin 2 => wbAny (F := F) c (slotTile p)) = iprop(wbAny c 0 ∗ wbAny c 1) := by
  rw [bigSep_fin2]; rfl
theorem wb_cut (c : Dev nD) :
    anyBuf (F := F) c cc0_scratch2 ⊢ iprop((wbAny c 0 ∗ wbAny c 1) ∗ wbRest c) := by
  rw [← wb_two]
  exact cut (ℓ := (c : Thread nD τ).loc cc0_scratch2)
    (fun p : Fin 2 => (wbSlot (slotTile p)).view.set) wb_disj
theorem wb_uncut (c : Dev nD) :
    iprop((wbAny c 0 ∗ wbAny c 1) ∗ wbRest c) ⊢ anyBuf (F := F) c cc0_scratch2 := by
  rw [← wb_two]
  exact uncut_any (ℓ := (c : Thread nD τ).loc cc0_scratch2)
    (fun p : Fin 2 => (wbSlot (slotTile p)).view.set) wb_disj

theorem w_two (c : Dev nD) : wFull m c ⊣⊢ iprop(wPts m c 0 ∗ wPts m c 1) := by
  unfold wFull wPts
  exact pointsTo_share (PosShare.mem_left_op_right fullShare)

/-- The buffer of the own maximum, dealt to the fifteen copies that read it. -/
def abRest (c : Dev nD) : sProp 𝕄 :=
  abM.view.loc (c : Thread nD τ) ↦[abM.view.set]{Transfers.shareDrop fullShare 15} (fun _ => lmax m c)
theorem ab_whole (c : Dev nD) :
    (((c : Thread nD τ).loc cc0_scratch4) ↦{fullShare} (fun _ => lmax m c) : sProp 𝕄)
      = (abM.view.loc (c : Thread nD τ) ↦[abM.view.set]{fullShare} (fun _ => lmax m c)) := by
  exact congrArg (fun S => (((c : Thread nD τ).loc cc0_scratch4) ↦[S]{fullShare}
    (fun _ => lmax m c) : sProp 𝕄)) (View.set_whole cc0_scratch4).symm
theorem ab_cut (c : Dev nD) :
    (((c : Thread nD τ).loc cc0_scratch4) ↦{fullShare} (fun _ => lmax m c) : sProp 𝕄)
      ⊢ iprop(abRest m c ∗ bigSep Finset.univ fun r => abTok m c r) := by
  rw [ab_whole]
  exact Transfers.pointsTo_toks_split fullShare 15
theorem ab_uncut (c : Dev nD) :
    iprop(abRest m c ∗ bigSep Finset.univ fun r => abTok m c r)
      ⊢ (((c : Thread nD τ).loc cc0_scratch4) ↦{fullShare} (fun _ => lmax m c) : sProp 𝕄) := by
  rw [ab_whole]
  exact Transfers.pointsTo_toks_join fullShare 15

theorem xr_any (c s : Dev nD) : xrPts m c s ⊢ xrAny c s := by
  unfold xrPts xrAny
  iintro H; iexists _; iexact H
theorem ac_any (c : Dev nD) (r : Fin 15) : acPts m c r ⊢ acAny c r := by
  unfold acPts acAny
  iintro H; iexists _; iexact H

/-! ## Dealing the resources to the phases -/

theorem sig_intro (c : Dev nD) :
    iprop((bigSep Finset.univ fun r => dutyTok ER (barCell (peer c r)) 0 r)
        ∗ (bigSep Finset.univ fun r => xrAny c (peer c r)) ∗ (bigSep Finset.univ fun r => acAny c r))
      ⊢ (sepL (sigRes c) peers : sProp 𝕄) := by
  rw [sepL_peers]
  unfold sigRes
  rw [bigSep_sep', bigSep_sep', bigSep_rev fun r => acAny c r]

theorem bar_elim (c : Dev nD) :
    (bigSep Finset.univ fun r => barPay (F := F) c r)
      ⊢ iprop((bigSep Finset.univ fun r => xrAny (peer c r) c)
          ∗ (bigSep Finset.univ fun r => acAny (peer c r) r)) := by
  unfold barPay
  rw [bigSep_sep', bigSep_rev fun r => xrAny (peer c r) c, bigSep_rev fun r => acAny (peer c r) r]

theorem send_intro (c : Dev nD) :
    iprop((bigSep Finset.univ fun r => sbPts c r) ∗ (bigSep Finset.univ fun r => xrAny (peer c r) c)
        ∗ (bigSep Finset.univ fun r => dutyTok ER (sentCell c r) 0 0)
        ∗ (bigSep Finset.univ fun r => dutyTok ER (rowCell (peer c r) r) 0 0))
      ⊢ (sepL (sendRes c) peers : sProp 𝕄) := by
  rw [sepL_peers]
  unfold sendRes
  rw [bigSep_sep', bigSep_sep', bigSep_sep']

theorem mSend_intro (c : Dev nD) :
    iprop((bigSep Finset.univ fun r => abTok m c r) ∗ (bigSep Finset.univ fun r => acAny (peer c r) r)
        ∗ (bigSep Finset.univ fun r => dutyTok ER (mSentCell c r) 0 0)
        ∗ (bigSep Finset.univ fun r => dutyTok ER (maxCell (peer c r) r) 0 0))
      ⊢ sepL (mSendRes m c) peers := by
  rw [sepL_peers]
  unfold mSendRes
  rw [bigSep_sep', bigSep_sep', bigSep_sep']

theorem max_intro (c : Dev nD) :
    iprop((bigSep Finset.univ fun r => cred (tallyAt (maxCell c r) () NM))
        ∗ (bigSep Finset.univ fun r => atPos ER (maxCell c r) 0 ∅ 0))
      ⊢ (sepL (maxRes c) peers : sProp 𝕄) := by
  rw [sepL_peers]
  unfold maxRes
  rw [bigSep_sep']
theorem max_elim (c : Dev nD) :
    sepL (maxGot m c) peers
      ⊢ iprop((bigSep Finset.univ fun r => acAny c r)
          ∗ (bigSep Finset.univ fun r => semVal (maxCell c r) 0)) := by
  rw [sepL_peers]
  unfold maxGot
  rw [bigSep_sep']
  exact sep_mono_left (bigSep_mono fun r _ => ac_any m c r)

theorem sent_intro (c : Dev nD) :
    iprop(sepL (sendGot c) peers ∗ (bigSep Finset.univ fun r => atPos ER (sentCell c r) 0 ∅ 0))
      ⊢ (sepL (sentRes c) peers : sProp 𝕄) := by
  rw [sepL_peers, sepL_peers]
  unfold sendGot sentRes
  rw [bigSep_sep']
theorem sent_elim (c : Dev nD) :
    (sepL (sentGot c) peers : sProp 𝕄)
      ⊢ iprop((bigSep Finset.univ fun r => sbPts c r)
          ∗ (bigSep Finset.univ fun r => semVal (sentCell c r) 0)) := by
  rw [sepL_peers]
  unfold sentGot
  rw [bigSep_sep']

theorem mSent_intro (c : Dev nD) :
    iprop(sepL (mSendGot c) peers ∗ (bigSep Finset.univ fun r => atPos ER (mSentCell c r) 0 ∅ 0))
      ⊢ (sepL (mSentRes c) peers : sProp 𝕄) := by
  rw [sepL_peers, sepL_peers]
  unfold mSendGot mSentRes
  rw [bigSep_sep']
theorem mSent_elim (c : Dev nD) :
    sepL (mSentGot m c) peers
      ⊢ iprop((bigSep Finset.univ fun r => abTok m c r)
          ∗ (bigSep Finset.univ fun r => semVal (mSentCell c r) 0)) := by
  rw [sepL_peers]
  unfold mSentGot
  rw [bigSep_sep']

theorem await_peer (c : Dev nD) (r : Fin 15) : Await m c (peer c r.rev)
    = iprop(cred (tallyAt (rowCell c r) () NX) ∗ atPos ER (rowCell c r) 0 ∅ 0) := by
  unfold Await
  rw [if_neg (peer_ne c r.rev), ix_peer_rev]
theorem await_self (c : Dev nD) : Await m c c = xrPts m c c := if_pos rfl
omit [FloatOps F] in
theorem rowSem_peer (c : Dev nD) (r : Fin 15) :
    (rowSem c (peer c r.rev) : sProp 𝕄) = semVal (rowCell c r) 0 := by
  unfold rowSem
  rw [if_neg (peer_ne c r.rev), ix_peer_rev]
omit [FloatOps F] in
theorem rowSem_self (c : Dev nD) : (rowSem c c : sProp 𝕄) = iprop(emp) := if_pos rfl

theorem awaits_intro (c : Dev nD) :
    iprop(xrPts m c c ∗ (bigSep Finset.univ fun r => cred (tallyAt (rowCell c r) () NX))
        ∗ (bigSep Finset.univ fun r => atPos ER (rowCell c r) 0 ∅ 0))
      ⊢ bigSep Finset.univ fun j => awaits m c j := by
  unfold awaits
  rw [← by_rounds c fun s => Await m c s, by_peers c fun s => Await m c s,
    ← bigSep_rev fun r => Await m c (peer c r), await_self,
    bigSep_congr fun r _ => await_peer m c r, bigSep_sep']
theorem rowSems_elim (c : Dev nD) :
    (bigSep Finset.univ fun j => rowSems c j)
      ⊢ (bigSep Finset.univ fun r => semVal (rowCell c r) 0 : sProp 𝕄) := by
  unfold rowSems
  rw [← by_rounds c fun s => rowSem c s, by_peers c fun s => rowSem c s,
    ← bigSep_rev fun r => rowSem c (peer c r), bigSep_congr fun r _ => rowSem_peer c r]
  iintro ⟨-, H⟩
  iexact H
theorem xg_elim (c : Dev nD) :
    (bigSep Finset.univ fun j => xgPts m c j) ⊢ bigSep Finset.univ fun s => xrAny c s := by
  rw [bigSep_congr fun j _ => xgPts_eq m c j, ← by_rounds c fun s => xrPts m c s]
  exact bigSep_mono fun s _ => xr_any m c s

end Cert.KernelIdeal.Own

end
-- ==== Proof.Body.lean ====
module

public import proofs.«01_k».proof.Proof.Deal

/-! # The body on one device

A symbolic device runs the body from what the launch deals it to its result, with every
semaphore at rest. -/

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (N : Dev nD × CK → ℕ)

/-! ## After the maximum is known -/

/-- What the exchange of the maxima and everything after it starts from. -/
def tailRes (c : Dev nD) : sProp 𝕄 :=
  iprop(yIs m c (Lv 4 0) ∗ anyBuf c cc0_scratch4
    ∗ (bigSep Finset.univ fun r => acAny (peer c r) r)
    ∗ (bigSep Finset.univ fun r => dutyTok ER (mSentCell c r) 0 0)
    ∗ (bigSep Finset.univ fun r => dutyTok ER (maxCell (peer c r) r) 0 0)
    ∗ (bigSep Finset.univ fun r => cred (tallyAt (maxCell c r) () NM))
    ∗ (bigSep Finset.univ fun r => atPos ER (maxCell c r) 0 ∅ 0)
    ∗ sepL (sendGot c) peers
    ∗ (bigSep Finset.univ fun r => atPos ER (sentCell c r) 0 ∅ 0)
    ∗ (bigSep Finset.univ fun r => atPos ER (mSentCell c r) 0 ∅ 0)
    ∗ anyBuf c cc0_stg1_0)
/-- What it leaves. -/
def tailGot (c : Dev nD) : sProp 𝕄 :=
  iprop(anyBuf c cc0_scratch3 ∗ anyBuf c cc0_scratch4
    ∗ (bigSep Finset.univ fun r => acAny c r)
    ∗ (bigSep Finset.univ fun r => sbPts c r)
    ∗ (bigSep Finset.univ fun r => semVal (sentCell c r) 0)
    ∗ (bigSep Finset.univ fun r => semVal (mSentCell c r) 0)
    ∗ (bigSep Finset.univ fun r => semVal (maxCell c r) 0)
    ∗ (((c : Thread nD τ).loc cc0_stg1_0) ↦{fullShare} OUT m c))

theorem y_any (c : Dev nD) : yIs m c (Lv 4 0) ⊢ anyBuf c cc0_scratch3 := by
  unfold yIs anyBuf
  iintro ⟨%f, -, H⟩
  iexists f; iexact H

theorem tail_runs (c : Dev nD) (K : Body F) (Q : PUnit → sProp 𝕄) :
    iprop(env m N ∗ ow c (OM c) ∗ tailRes m c)
      ⊢ iprop((ow c 0 ∗ tailGot m c -∗ runs c K Q)
        -∗ runs c (localMax fun a => sendMaxs c peers <| recvMaxs peers a fun a' =>
          sentRows c peers <| sentMaxs peers <| outTiles a' K) Q) := by
  unfold tailRes
  iintro ⟨#He, Ho, Hy, Hab, Hac, Td, Tm, Cm, Pm, Cs, Ps, Pd, Hout⟩ Hk
  iapply (localMax_runs m c _ Q) $$ [Hy Hab]
  · isplitl [Hy]; · iexact Hy
    unfold anyBuf; iexact Hab
  iintro ⟨Hy, Hab⟩
  ihave Hab := (ab_cut m c) $$ Hab
  icases Hab with ⟨Hrest, Htok⟩
  ihave Hs := (mSend_intro m c) $$ [Htok Hac Td Tm]
  · isplitl [Htok]; · iexact Htok
    isplitl [Hac]; · iexact Hac
    isplitl [Td]; · iexact Td
    iexact Tm
  iapply (sendMaxs_runs m N c 0 _ Q peers) $$ [Ho Hs]
  · isplitr; · iexact He
    isplitl [Ho]; · rw [zero_add]; iexact Ho
    iexact Hs
  iintro ⟨Ho, Cd⟩
  ihave Hm := (max_intro c) $$ [Cm Pm]
  · isplitl [Cm]; · iexact Cm
    iexact Pm
  iapply (recvMaxs_runs m N c _ Q peers (lmax m c)) $$ [Ho Hm]
  · isplitr; · iexact He
    isplitl [Ho]; · iexact Ho
    iexact Hm
  iintro ⟨Ho, Hm⟩
  ihave Hm := (max_elim m c) $$ Hm
  icases Hm with ⟨Hac, Zm⟩
  ihave Hs := (sent_intro c) $$ [Cs Ps]
  · isplitl [Cs]; · iexact Cs
    iexact Ps
  iapply (sentRows_runs m N c _ Q peers) $$ [Ho Hs]
  · isplitr; · iexact He
    isplitl [Ho]; · iexact Ho
    iexact Hs
  iintro ⟨Ho, Hs⟩
  ihave Hs := (sent_elim c) $$ Hs
  icases Hs with ⟨Hsb, Zs⟩
  ihave Hd := (mSent_intro c) $$ [Cd Pd]
  · isplitl [Cd]; · iexact Cd
    iexact Pd
  iapply (sentMaxs_runs m N c _ Q peers) $$ [Ho Hd]
  · isplitr; · iexact He
    isplitl [Ho]; · iexact Ho
    iexact Hd
  iintro ⟨Ho, Hd⟩
  ihave Hd := (mSent_elim m c) $$ Hd
  icases Hd with ⟨Htok, Zd⟩
  ihave Hab := (ab_uncut m c) $$ [Hrest Htok]
  · isplitl [Hrest]; · iexact Hrest
    iexact Htok
  rw [show gmaxOn m c peers (lmax m c) = gmax m c from rfl]
  iapply (outTiles_runs m c _ Q) $$ [Hy Hout]
  · isplitl [Hy]; · iexact Hy
    unfold anyBuf; iexact Hout
  iintro ⟨Hy, Hout⟩
  iapply Hk
  isplitl [Ho]; · iexact Ho
  unfold tailGot
  isplitl [Hy]; · iapply (y_any m c); iexact Hy
  isplitl [Hab]; · unfold anyBuf; iexists _; iexact Hab
  isplitl [Hac]; · iexact Hac
  isplitl [Hsb]; · iexact Hsb
  isplitl [Zs]; · iexact Zs
  isplitl [Zd]; · iexact Zd
  isplitl [Zm]; · iexact Zm
  iexact Hout

/-! ## The whole body -/

/-- What a device's run of the body starts from. -/
def startRes (c : Dev nD) : sProp 𝕄 :=
  iprop(posRes c ∗ tokRes c ∗ credRes c ∗ bufRes c ∗ wFull m c ∗ wSem c 0 ∗ wSem c 1)
/-- What it ends with. -/
def endRes (c : Dev nD) : sProp 𝕄 :=
  iprop(semVal (barCell c) 0 ∗ semRes c ∗ bufRes c ∗ wFull m c ∗ wSem c 0 ∗ wSem c 1)

theorem y_start (c : Dev nD) : anyBuf c cc0_scratch3 ⊢ yIs m c (Lv 0 0) := by
  unfold yIs anyBuf
  iintro ⟨%f, H⟩
  iexists f
  isplitr
  · ipureintro
    intro q hq
    exact absurd (if_neg (Nat.not_lt_zero _)) hq
  · iexact H

theorem idle_intro (c : Dev nD) (q : Fin 4) :
    iprop(wPts m c q ∗ wbAny c q ∗ wSem c q) ⊢ Idle m c q := by
  unfold Idle wbAny; exact Entails.refl _
theorem idle_elim (c : Dev nD) (q : Fin 4) :
    Idle m c q ⊢ iprop(wPts m c q ∗ wbAny c q ∗ wSem c q) := by
  unfold Idle wbAny; exact Entails.refl _

theorem device_runs (c : Dev nD) (K : Dev nD → Body F) (Q : PUnit → sProp 𝕄) :
    runs c (K c) Q ⊢ runs c (.op .deviceId K) Q :=
  Entails.of_eq (wp_deviceId 𝒱₀ (c : Thread nD τ) none Set.univ).symm
theorem ret_runs (c : Dev nD) (Q : PUnit → sProp 𝕄) : Q ⟨⟩ ⊢ runs c (.ret ⟨⟩) Q := by
  rw [runs, wp_ret]
  exact fupd_intro

theorem body_runs (c : Dev nD) (Q : PUnit → sProp 𝕄) :
    iprop(env m N ∗ ow c (O₀ c) ∗ startRes m c ∗ xPts m c ∗ anyBuf c cc0_stg1_0)
      ⊢ iprop((ow c 0 ∗ endRes m c ∗ xPts m c
          ∗ (((c : Thread nD τ).loc cc0_stg1_0) ↦{fullShare} OUT m c) -∗ Q ⟨⟩)
        -∗ runs c body Q) := by
  unfold startRes posRes tokRes credRes bufRes body
  iintro ⟨#He, Ho, ⟨⟨Pb, Ps, Pr, Pd, Pm⟩, ⟨Tb, Ts, Tr, Td, Tm⟩, ⟨Cb, Cr, Cm⟩,
    ⟨B0, B1, B2, B3, B4, B5⟩, Hw, W0, W1⟩, Hx, Hout⟩ Hk
  iapply (device_runs c _ Q)
  ihave B0 := (sb_cut c) $$ B0
  icases B0 with ⟨Hsb, Rsb⟩
  ihave B1 := (xr_cut c) $$ B1
  icases B1 with ⟨Hxr, Rxr⟩
  ihave Hxr := (Entails.of_eq (by_peers c fun s => xrAny c s)) $$ Hxr
  icases Hxr with ⟨Hown, Hxr⟩
  ihave B2 := (wb_cut c) $$ B2
  icases B2 with ⟨⟨Hb0, Hb1⟩, Rwb⟩
  ihave B5 := (ac_cut c) $$ B5
  icases B5 with ⟨Hac, Rac⟩
  ihave Hw := (w_two m c).1 $$ Hw
  icases Hw with ⟨Hw0, Hw1⟩
  ihave Hy := (y_start m c) $$ B3
  ihave Hs := (sig_intro c) $$ [Tb Hxr Hac]
  · isplitl [Tb]; · iexact Tb
    isplitl [Hxr]; · iexact Hxr
    iexact Hac
  iapply (signals_runs m N c (OX c) _ Q peers) $$ [Ho Hs]
  · isplitr; · iexact He
    isplitl [Ho]; · iexact Ho
    iexact Hs
  iintro Ho
  iapply (barrier_runs m N c (above_OX c) (fun _ => afterBarrier c) Q) $$ [Ho Cb Pb]
  · isplitr; · iexact He
    isplitl [Ho]; · iexact Ho
    isplitl [Cb]; · iexact Cb
    iexact Pb
  iintro ⟨Ho, Zb, Hbar⟩
  ihave Hbar := (bar_elim c) $$ Hbar
  icases Hbar with ⟨Hxp, Hap⟩
  unfold afterBarrier
  ihave Hs := (send_intro c) $$ [Hsb Hxp Ts Tr]
  · isplitl [Hsb]; · iexact Hsb
    isplitl [Hxp]; · iexact Hxp
    isplitl [Ts]; · iexact Ts
    iexact Tr
  iapply (sends_runs m N c (OM c) _ Q peers) $$ [Ho Hx Hs]
  · isplitr; · iexact He
    isplitl [Ho]; · iexact Ho
    isplitl [Hx]; · iexact Hx
    iexact Hs
  iintro ⟨Ho, Hx, Cs⟩
  iapply (ownRows_runs m c _ Q) $$ [Hx Hown]
  · isplitl [Hx]; · iexact Hx
    iexact Hown
  iintro ⟨Hx, Hown⟩
  ihave Ha := (awaits_intro m c) $$ [Hown Cr Pr]
  · isplitl [Hown]; · iexact Hown
    isplitl [Cr]; · iexact Cr
    iexact Pr
  iapply (rounds_runs m N c _ Q) $$ [Ho Hw0 Hb0 W0 Hw1 Hb1 W1 Ha Hy]
  · isplitr; · iexact He
    isplitl [Ho]; · iexact Ho
    isplitl [Hw0 Hb0 W0]
    · iapply (idle_intro m c 0)
      isplitl [Hw0]; · iexact Hw0
      isplitl [Hb0]; · iexact Hb0
      iexact W0
    isplitl [Hw1 Hb1 W1]
    · iapply (idle_intro m c 1)
      isplitl [Hw1]; · iexact Hw1
      isplitl [Hb1]; · iexact Hb1
      iexact W1
    isplitl [Ha]; · iexact Ha
    iexact Hy
  iintro ⟨Ho, I0, I1, Hxg, Zr, Hy⟩
  ihave I0 := (idle_elim m c 0) $$ I0
  icases I0 with ⟨Hw0, Hb0, W0⟩
  ihave I1 := (idle_elim m c 1) $$ I1
  icases I1 with ⟨Hw1, Hb1, W1⟩
  iapply (tail_runs m N c _ Q) $$ [Ho Hy B4 Hap Td Tm Cm Pm Cs Ps Pd Hout]
  · isplitr; · iexact He
    isplitl [Ho]; · iexact Ho
    unfold tailRes
    isplitl [Hy]; · iexact Hy
    isplitl [B4]; · iexact B4
    isplitl [Hap]; · iexact Hap
    isplitl [Td]; · iexact Td
    isplitl [Tm]; · iexact Tm
    isplitl [Cm]; · iexact Cm
    isplitl [Pm]; · iexact Pm
    isplitl [Cs]; · iexact Cs
    isplitl [Ps]; · iexact Ps
    isplitl [Pd]; · iexact Pd
    iexact Hout
  unfold tailGot
  iintro ⟨Ho, B3, B4, Hac, Hsb, Zs, Zd, Zm, Hout⟩
  iapply (ret_runs c Q)
  iapply Hk
  isplitl [Ho]; · iexact Ho
  isplitr [Hx Hout]
  · unfold endRes semRes bufRes
    isplitl [Zb]; · iexact Zb
    isplitl [Zs Zr Zd Zm]
    · isplitl [Zs]; · iexact Zs
      isplitl [Zr]; · iapply (rowSems_elim c); iexact Zr
      isplitl [Zd]; · iexact Zd
      iexact Zm
    isplitl [Hsb Rsb Hxg Rxr Hb0 Hb1 Rwb B3 B4 Hac Rac]
    · isplitl [Hsb Rsb]
      · iapply (sb_uncut c)
        isplitl [Hsb]; · iexact Hsb
        iexact Rsb
      isplitl [Hxg Rxr]
      · iapply (xr_uncut c)
        isplitl [Hxg]; · iapply (xg_elim m c); iexact Hxg
        iexact Rxr
      isplitl [Hb0 Hb1 Rwb]
      · iapply (wb_uncut c)
        isplitl [Hb0 Hb1]
        · isplitl [Hb0]; · iexact Hb0
          iexact Hb1
        iexact Rwb
      isplitl [B3]; · iexact B3
      isplitl [B4]; · iexact B4
      iapply (ac_uncut c)
      isplitl [Hac]; · iexact Hac
      iexact Rac
    isplitl [Hw0 Hw1]
    · iapply (w_two m c).2
      isplitl [Hw0]; · iexact Hw0
      iexact Hw1
    isplitl [W0]; · iexact W0
    iexact W1
  isplitl [Hx]; · iexact Hx
  iexact Hout

end Cert.KernelIdeal.Own

end
-- ==== Proof.Shares.lean ====
module

public import proofs.«01_k».proof.Proof.Body
public import proofs.«01_k».proof.Proof.Gen.KernelIdeal.Launch
public import Idealize.ShloMosaic.Lib.Pipeline.CollectiveSegs

/-! # What the launch deals

The semaphores, the positions, the duties and the credits of all devices, from what the launch
creates to what each device starts from: every duty goes to the device that pays it. -/

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The kernel's own semaphores -/

/-- The kernel's own semaphores: those of the cells, the first of each of those four arrays, which
no copy uses, and the two of the slots of `w`. -/
abbrev OK : Type := (Fin 4 × Fin 15) ⊕ (Fin 4 ⊕ Fin 2)

/-- The first semaphore of an array of sixteen. -/
def sem0 (s : DmaSems sig S16) : DmaSem sig :=
  ((s.slice (Rect.unit (s := S16) ![0] S1.size (by decide))).squeeze S_ squeezes_S1_S_).sem

/-- The semaphore of each name. -/
def osem : OK → SemLoc sig
  | .inl f => csem (.inr f)
  | .inr (.inl ⟨0, _⟩) => .dma (sem0 cc0_scratch6)
  | .inr (.inl ⟨1, _⟩) => .dma (sem0 cc0_scratch7)
  | .inr (.inl ⟨2, _⟩) => .dma (sem0 cc0_scratch8)
  | .inr (.inl ⟨3, _⟩) => .dma (sem0 cc0_scratch9)
  | .inr (.inr ⟨0, _⟩) => .dma (wdSem 0)
  | .inr (.inr ⟨1, _⟩) => .dma (wdSem 1)

theorem osem_scoped : ∀ k, (osem k).isScoped .tc = true := by decide +kernel
theorem osem_inj : ∀ k k', osem k = osem k' → k = k' := by decide +kernel
theorem osem_stage : ∀ k w s, osem k ≠ .dma ((cfg0.spec w).sem s) := by decide +kernel
theorem ownSemFacts : Pipeline.OwnSemFacts cfg0.spec osem :=
  ⟨osem_scoped, fun k k' => osem_inj k k', osem_stage⟩

/-- The semaphores that no copy uses, at rest. -/
def spare (c : Dev nD) : sProp 𝕄 :=
  bigSep Finset.univ fun i : Fin 4 => semVal ((c : Thread nD τ), osem (.inr (.inl i))) 0

omit [FloatOps F] in
/-- A product over the cells of a device, family by family. -/
theorem by_kind (c : Dev nD) (Φ : GSem nD τ sig → sProp 𝕄) :
    (bigSep Finset.univ fun k : CK => Φ (kcell (c, k)))
      = iprop(Φ (barCell c) ∗ (bigSep Finset.univ fun r => Φ (sentCell c r))
        ∗ (bigSep Finset.univ fun r => Φ (rowCell c r))
        ∗ (bigSep Finset.univ fun r => Φ (mSentCell c r))
        ∗ (bigSep Finset.univ fun r => Φ (maxCell c r))) := by
  rw [bigSep_univ_sum, bigSep_univ_prod, bigSep_fin4,
    show (bigSep Finset.univ fun a : Unit => Φ (kcell (c, .inl a))) = Φ (barCell c) from
      bigSep_singleton (i := ())]
  rfl

theorem ownSems0_eq (c : Dev nD) :
    (Pipeline.ownSems0 (Ix := Unit) (Name := ℕ) (U := UU) (Lvl := ℕ) (Val := Elt F) (τ := τ) osem c
        : sProp 𝕄)
      = iprop(semRes c ∗ spare c ∗ wSem c 0 ∗ wSem c 1) := by
  unfold Pipeline.ownSems0
  rw [bigSep_univ_sum, bigSep_univ_sum, bigSep_univ_prod, bigSep_fin4, bigSep_fin2]
  rfl
omit [FloatOps F] in
theorem unscopedSems0_eq (c : Dev nD) : (unscopedSems0 c : sProp 𝕄) = semVal (barCell c) 0 := by
  unfold unscopedSems0
  rw [bigSep_eq_bigSepL_of_eq [SemLoc.reg barS] (by decide) (by decide)]; rfl

theorem sems0_deal (c : Dev nD) :
    (iprop(Pipeline.ownSems0 (Ix := Unit) (Name := ℕ) (U := UU) (Lvl := ℕ) (Val := Elt F) (τ := τ) osem c
        ∗ unscopedSems0 c) : sProp 𝕄)
      ⊢ iprop((bigSep Finset.univ fun k : CK => semVal (kcell (c, k)) 0) ∗ spare c ∗ wSem c 0
          ∗ wSem c 1) := by
  rw [ownSems0_eq, unscopedSems0_eq, by_kind c fun g => semVal g 0]
  unfold semRes
  iintro ⟨⟨Hs, Hr⟩, Hb⟩
  isplitl [Hs Hb]
  · isplitl [Hb]; · iexact Hb
    iexact Hs
  iexact Hr

/-! ## Creating the cells -/

theorem kcell_inj : Function.Injective kcell := by
  rintro ⟨c, k⟩ ⟨c', k'⟩ h
  have h1 : c = c' := congrArg (fun g : GSem nD τ sig => g.1.1) h
  have h2 : csem k = csem k' := congrArg Prod.snd h
  rw [h1, csem_inj h2]

/-- The cells of all devices. -/
def allCells : Finset (GSem nD τ sig) := Finset.univ.map ⟨kcell, kcell_inj⟩

/-- The names of a cell owner's duties: one per peer at the barrier, one in every other cell. -/
abbrev TK : Type := Fin 15 ⊕ (Fin 4 × Fin 15)
/-- A duty. -/
def tokOf : Dev nD × TK → GSem nD τ sig × ℕ × Fin 15
  | (c, .inl r) => (kcell (c, .inl ()), 0, r)
  | (c, .inr f) => (kcell (c, .inr f), 0, 0)
theorem tokOf_inj : Function.Injective tokOf := by
  rintro ⟨c, j⟩ ⟨c', j'⟩ h
  have h1 := congrArg Prod.fst h
  have h2 := congrArg (fun x : GSem nD τ sig × ℕ × Fin 15 => x.2.2) h
  match j, j' with
  | .inl r, .inl r' =>
    have e : r = r' := h2
    rw [(Prod.mk.inj (kcell_inj h1)).1, e]
  | .inl _, .inr _ => exact absurd (Prod.mk.inj (kcell_inj h1)).2 (by simp)
  | .inr _, .inl _ => exact absurd (Prod.mk.inj (kcell_inj h1)).2 (by simp)
  | .inr f, .inr f' =>
    have e := Prod.mk.inj (kcell_inj h1)
    rw [e.1, Sum.inr.inj e.2]
/-- The duties of all cells. -/
def allToks : Finset (GSem nD τ sig × ℕ × Fin 15) := Finset.univ.map ⟨tokOf, tokOf_inj⟩

/-- The duties of device `c`'s own cells. -/
def toks (c : Dev nD) : sProp 𝕄 :=
  iprop((bigSep Finset.univ fun r => dutyTok ER (barCell c) 0 r)
    ∗ (bigSep Finset.univ fun r => dutyTok ER (sentCell c r) 0 0)
    ∗ (bigSep Finset.univ fun r => dutyTok ER (rowCell c r) 0 0)
    ∗ (bigSep Finset.univ fun r => dutyTok ER (mSentCell c r) 0 0)
    ∗ (bigSep Finset.univ fun r => dutyTok ER (maxCell c r) 0 0))

theorem toks_eq (c : Dev nD) :
    (bigSep Finset.univ fun j : TK =>
        (dutyTok ER (tokOf (c, j)).1 (tokOf (c, j)).2.1 (tokOf (c, j)).2.2 : sProp 𝕄)) = toks c := by
  rw [bigSep_univ_sum, bigSep_univ_prod, bigSep_fin4]
  rfl

omit [FloatOps F] in
/-- A product over all devices and their peers, counted from the peers. -/
theorem around (Φ : Dev nD → Fin 15 → sProp 𝕄) :
    (bigSep Finset.univ fun c => bigSep Finset.univ fun r => Φ c r)
      = bigSep Finset.univ fun c => bigSep Finset.univ fun r => Φ (peer c r) r := by
  have hi : Function.Injective fun x : Dev nD × Fin 15 => (peer x.1 x.2, x.2) := by
    rintro ⟨c, r⟩ ⟨c', r'⟩ h
    have h2 : r = r' := (Prod.mk.inj h).2
    subst h2
    rw [peer_inj r c c' (Prod.mk.inj h).1]
  have hb := Finite.injective_iff_bijective.mp hi
  rw [← bigSep_univ_prod (fun x : Dev nD × Fin 15 => Φ x.1 x.2),
    bigSep_univ_equiv (Equiv.ofBijective _ hb) (fun x : Dev nD × Fin 15 => Φ x.1 x.2), bigSep_univ_prod]
  rfl

/-- Every duty goes to the device that pays it. -/
theorem toks_around :
    (bigSep Finset.univ fun c : Dev nD => (toks c : sProp 𝕄)) ⊢ bigSep Finset.univ fun c => tokRes c := by
  unfold toks tokRes
  simp only [bigSep_sep']
  rw [around fun c r => dutyTok ER (barCell c) 0 r, around fun c r => dutyTok ER (rowCell c r) 0 0,
    around fun c r => dutyTok ER (maxCell c r) 0 0]

variable (m : (ℓ : Loc nD τ sig) → Buf (Elt F) ℓ)

/-- What creating the protocol gives each device. -/
def G (c : Dev nD) : sProp 𝕄 :=
  iprop((bigSep Finset.univ fun k : CK => roundState ER (Rd m) (kcell (c, k)) 0)
    ∗ (bigSep Finset.univ fun k : CK => atPos ER (kcell (c, k)) 0 ∅ 0)
    ∗ (bigSep Finset.univ fun k : CK => reached ER (kcell (c, k)) 0) ∗ toks c)

/-- Every cell's invariant and that its round 0 is reached. -/
def known (N : Dev nD × CK → ℕ) : sProp 𝕄 :=
  iprop((bigSep Finset.univ fun ck : Dev nD × CK => cellInv ER (Rd m) (N ck) (kcell ck))
    ∗ (bigSep Finset.univ fun ck : Dev nD × CK => reached ER (kcell ck) 0))
instance known_persistent (N : Dev nD × CK → ℕ) : BI.Persistent (known m N) := by
  unfold known; infer_instance
/-- What a device holds on its own. -/
def own (c : Dev nD) : sProp 𝕄 :=
  iprop(posRes c ∗ tokRes c ∗ spare c ∗ wSem c 0 ∗ wSem c 1)
/-- What the devices hold once the cells are open. -/
def G' (c : Dev nD) : sProp 𝕄 := iprop((∃ N, known m N) ∗ own c)

theorem fund_all : BI.own (ER (initOf allCells allToks)) ⊢ (|==> bigSep Finset.univ (G m) : sProp 𝕄) := by
  have hX (Φ : GSem nD τ sig → sProp 𝕄) : bigSep allCells Φ
      = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄))
      = bigSep Finset.univ fun c : Dev nD => toks c := by
    unfold allToks; rw [bigSep_map, bigSep_univ_prod]
    exact bigSep_congr fun c _ => toks_eq c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- One device opens its cells. -/
theorem core_alloc (c : Dev nD) :
    iprop(Pipeline.ownSems0 (Ix := Unit) (Name := ℕ) (U := UU) (Lvl := ℕ) (Val := Elt F) (τ := τ) osem c
        ∗ unscopedSems0 c ∗ G m c)
      ⊢ |={Set.univ}=> iprop((bigSep Finset.univ fun k : CK => iprop(∃ κ : ℕ, cellInv ER (Rd m) κ (kcell (c, k))))
          ∗ (bigSep Finset.univ fun k : CK => reached ER (kcell (c, k)) 0)
          ∗ (bigSep Finset.univ fun k : CK => atPos ER (kcell (c, k)) 0 ∅ 0)
          ∗ toks c ∗ spare c ∗ wSem c 0 ∗ wSem c 1) := by
  unfold G
  iintro ⟨Hos, Hus, Hst, Hat, Hre, Htok⟩
  ihave Hv := (sems0_deal (F := F) c) $$ [Hos Hus]
  · isplitl [Hos] <;> iassumption
  icases Hv with ⟨Hv, Hspare⟩
  imod (show iprop((bigSep Finset.univ fun k : CK => semVal (kcell (c, k)) 0)
        ∗ bigSep Finset.univ fun k : CK => roundState ER (Rd m) (kcell (c, k)) 0)
      ⊢ (|={Set.univ}=> bigSep Finset.univ fun k : CK =>
          iprop(∃ κ : ℕ, cellInv ER (Rd m) κ (kcell (c, k))) : sProp 𝕄) from by
        rw [← bigSep_sep']
        exact (bigSep_mono fun k _ =>
          (Rounds.body_intro ER (Rd m) (kcell (c, k))).trans inv_alloc).trans (bigSep_fupd _ _))
    $$ [Hv Hst] with Hinv
  · isplitl [Hv] <;> iassumption
  imodintro
  isplitl [Hinv]; · iexact Hinv
  isplitl [Hre]; · iexact Hre
  isplitl [Hat]; · iexact Hat
  isplitl [Htok]; · iexact Htok
  iexact Hspare

omit [FloatOps F] in
theorem with_known {R : sProp 𝕄} [BI.Persistent R] (Φ : Dev nD → sProp 𝕄) :
    iprop(R ∗ bigSep Finset.univ Φ) ⊢ bigSep Finset.univ fun c => iprop(R ∗ Φ c) :=
  (sep_mono_left (BI.bigSep_of_persistent Finset.univ R)).trans (by rw [← bigSep_sep'])

theorem own_intro :
    (iprop((bigSep Finset.univ fun c : Dev nD => bigSep Finset.univ fun k : CK => atPos ER (kcell (c, k)) 0 ∅ 0)
        ∗ (bigSep Finset.univ fun c : Dev nD => tokRes c)
        ∗ bigSep Finset.univ fun c : Dev nD => iprop(spare c ∗ wSem c 0 ∗ wSem c 1)) : sProp 𝕄)
      ⊢ bigSep Finset.univ fun c => own c := by
  rw [← bigSep_sep', ← bigSep_sep']
  refine bigSep_mono fun c _ => ?_
  rw [by_kind c fun g => atPos ER g 0 ∅ 0]
  exact .refl _

/-- What the devices' opened cells amount to. -/
theorem regroup :
    (bigSep Finset.univ fun c : Dev nD =>
        iprop((bigSep Finset.univ fun k : CK => iprop(∃ κ : ℕ, cellInv ER (Rd m) κ (kcell (c, k))))
          ∗ (bigSep Finset.univ fun k : CK => reached ER (kcell (c, k)) 0)
          ∗ (bigSep Finset.univ fun k : CK => atPos ER (kcell (c, k)) 0 ∅ 0)
          ∗ toks c ∗ spare c ∗ wSem c 0 ∗ wSem c 1) : sProp 𝕄)
      ⊢ bigSep Finset.univ (G' m) := by
  rw [bigSep_sep', bigSep_sep', bigSep_sep',
    ← bigSep_univ_prod (fun ck : Dev nD × CK => iprop(∃ κ : ℕ, cellInv ER (Rd m) κ (kcell ck))),
    bigSep_sep' Finset.univ (fun c : Dev nD => toks c) fun c => iprop(spare c ∗ wSem c 0 ∗ wSem c 1),
    ← bigSep_univ_prod (fun ck : Dev nD × CK => (reached ER (kcell ck) 0 : sProp 𝕄))]
  iintro ⟨HI, #HR, Hat, Htok, Hrest⟩
  ihave HK := (BI.bigSep_exists_pi Finset.univ
    (fun (ck : Dev nD × CK) (κ : ℕ) => (cellInv ER (Rd m) κ (kcell ck) : sProp 𝕄))) $$ HI
  icases HK with ⟨%N, #HI⟩
  ihave Htk := (toks_around (F := F)) $$ Htok
  ihave Hall := (with_known (R := iprop(∃ N, known m N)) (fun c => own c)) $$ [Hat Htk Hrest]
  · isplitr
    · iexists N
      unfold known
      isplitr
      · iexact HI
      · iexact HR
    · iapply (own_intro (F := F))
      isplitl [Hat]; · iexact Hat
      isplitl [Htk]; · iexact Htk
      iexact Hrest
  iexact Hall

theorem glob :
    (bigSep Finset.univ fun c =>
        iprop(Pipeline.ownSems0 (Ix := Unit) (Name := ℕ) (U := UU) (Lvl := ℕ) (Val := Elt F) (τ := τ) osem c
          ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

/-! ## The credits -/

theorem dues_apply (f : Fin 15 → CellTallies nD τ sig Unit) (g : GSem nD τ sig) :
    dues f peers g () = ∑ r : Fin 15, f r g () := by
  have h : ∀ l : List (Fin 15), dues f l g () = (l.map fun r => f r g ()).sum := by
    intro l
    induction l with
    | nil => rfl
    | cons r l ih =>
      rw [List.map_cons, List.sum_cons, ← ih, Nat.add_comm]
      rfl
  rw [h, ← List.sum_toFinset _ (by decide : peers.Nodup)]
  rfl

theorem tally_kcell (e c : Dev nD) (k k' : CK) (n : ℕ) :
    (tallyAt (kcell (e, k)) () n : CellTallies nD τ sig Unit) (kcell (c, k')) ()
      = if e = c then (if k = k' then n else 0) else 0 := by
  rw [tallyAt_apply]
  by_cases h : e = c
  · by_cases h' : k = k'
    · rw [if_pos ⟨by rw [h, h'], rfl⟩, if_pos h, if_pos h']
    · rw [if_neg (fun x => h' (Prod.mk.inj (kcell_inj x.1)).2.symm), if_pos h, if_neg h']
  · rw [if_neg (fun x => h (Prod.mk.inj (kcell_inj x.1)).1.symm), if_neg h]

/-- All devices' dues of one kind to one cell: each number of peer counts once. -/
theorem dues_total (κ : Fin 15 → CK) (n : ℕ) (c : Dev nD) (k : CK) :
    (∑ d : Dev nD, dues (fun r => tallyAt (kcell (peer d r, κ r)) () n) peers (kcell (c, k)) ())
      = ∑ r : Fin 15, if κ r = k then n else 0 := by
  rw [Finset.sum_congr rfl fun d _ => dues_apply _ _, Finset.sum_comm]
  refine Finset.sum_congr rfl fun r _ => ?_
  rw [Finset.sum_congr rfl fun d _ => tally_kcell (peer d r) c (κ r) k n,
    Finset.sum_eq_single (peer c r.rev)]
  · rw [if_pos (peer_rev c r)]
  · intro d _ hd
    exact if_neg fun h => hd (by rw [← h, rev_peer])
  · intro h; exact absurd (Finset.mem_univ _) h

theorem owed_total (c : Dev nD) (k : CK) :
    (∑ d : Dev nD, O₀ d (kcell (c, k)) ())
      = ((∑ r : Fin 15, if (.inr (3, r) : CK) = k then NM else 0)
        + ∑ r : Fin 15, if (.inr (1, r) : CK) = k then NX else 0)
        + ∑ r : Fin 15, if (.inl () : CK) = k then 1 else 0 := by
  rw [← dues_total (fun r => .inr (3, r)) NM c k, ← dues_total (fun r => .inr (1, r)) NX c k,
    ← dues_total (fun _ => .inl ()) 1 c k, ← Finset.sum_add_distrib, ← Finset.sum_add_distrib]
  rfl

theorem launch_cell (c : Dev nD) (k : CK) {n : ℕ} (h : (∑ d : Dev nD, O₀ d (kcell (c, k)) ()) = n) :
    tallyOn (kcell (c, k)) (launchCredit (Pipeline.owing O₀) 0 (kcell (c, k)))
      = (tallyAt (kcell (c, k)) () n : CellTallies nD τ sig Unit) := by
  unfold tallyAt
  refine congrArg _ (Finsupp.ext fun u => ?_)
  cases u
  rw [Pipeline.launchCredit_owing, Finsupp.single_eq_same, h]

theorem owed_bar (c : Dev nD) : (∑ d : Dev nD, O₀ d (kcell (c, .inl ())) ()) = 15 := by
  rw [owed_total]; simp
theorem owed_row (c : Dev nD) (r : Fin 15) : (∑ d : Dev nD, O₀ d (kcell (c, .inr (1, r))) ()) = NX := by
  rw [owed_total]; simp
theorem owed_max (c : Dev nD) (r : Fin 15) : (∑ d : Dev nD, O₀ d (kcell (c, .inr (3, r))) ()) = NM := by
  rw [owed_total]; simp

theorem creds (c : Dev nD) : (Pipeline.launchCred O₀ c : sProp 𝕄) ⊢ credRes c := by
  unfold Pipeline.launchCred
  refine (bigSep_subset (Finset.subset_univ (Finset.univ.map ⟨csem, csem_inj⟩))).trans ?_
  rw [bigSep_map]
  refine (Entails.of_eq (by_kind c fun g =>
    cred (tallyOn g (launchCredit (Pipeline.owing O₀) 0 g)))).trans ?_
  unfold credRes
  iintro ⟨Hb, -, Hr, -, Hm⟩
  isplitl [Hb]
  · iapply (Entails.of_eq (congrArg cred (launch_cell c (.inl ()) (owed_bar c)))); iexact Hb
  isplitl [Hr]
  · iapply (Entails.of_eq (bigSep_congr (s := Finset.univ) fun r _ =>
      congrArg cred (launch_cell c (.inr (1, r)) (owed_row c r))))
    iexact Hr
  · iapply (Entails.of_eq (bigSep_congr (s := Finset.univ) fun r _ =>
      congrArg cred (launch_cell c (.inr (3, r)) (owed_max c r))))
    iexact Hm

end Cert.KernelIdeal.Own

end
-- ==== Proof.Launch.lean ====
module

public import proofs.«01_k».proof.Proof.Shares
public import proofs.«01_k».proof.Proof.Gen.KernelIdeal.Points
public import Idealize.ShloMosaic.Lib.Pipeline.Value

/-! # The launch

Every device runs the body inside its region; the whole mesh terminates with every result as
computed, the arguments unchanged and every semaphore at rest. -/

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Before the body: what the devices know, and what a device starts from. -/
def Φ₀ (c : Dev nD) : sProp 𝕄 := iprop((∃ N, env m N) ∗ startRes m c ∗ spare c)
/-- After it. -/
def Φ₁ (c : Dev nD) : sProp 𝕄 := iprop(endRes m c ∗ spare c)

/-- The region's course on device `c`: the shard of `x` comes in, the result goes out. -/
def dats (_ : Fin 1) (c : Dev nD) : Pipeline.Dat τ (Elt F) Unit ℕ UU ℕ cfg0 c where
  A w := m ((cfg0.win w).arr.view.loc (c : Thread nD τ))
  after w _ := match w with
    | ⟨0, _⟩ => xs m c
    | ⟨1, _⟩ => OUT m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A staging buffer on device `c` at known contents. -/
def stg (c : Dev nD) (b : Ref sig .tc) (f : b.ty.Contents (Elt F)) : sProp 𝕄 :=
  iprop(∃ g : Buf (Elt F) ((c : Thread nD τ).loc b), ⌜g = f⌝ ∗ ((c : Thread nD τ).loc b) ↦{fullShare} g)

theorem owns_whole_eq (c : Dev nD) (b : Ref sig .tc) (f : b.ty.Contents (Elt F)) :
    (owns (Ix := Unit) (Name := ℕ) (U := UU) (Lvl := ℕ) (c : Thread nD τ) (Memref.whole b) fullShare f
        : sProp 𝕄) = stg c b f := by
  unfold owns stg
  simp only [Memref.view_whole, View.read_whole, View.set_whole]

/-! ## The body's obligation -/

/-- What the body is handed. -/
def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
/-- What it hands back. -/
def bodyPost (c : Dev nD) : sProp 𝕄 :=
  iprop(Φ₁ m c ∗ (dats m 0 c).owesAt () t0_0.succ ∗ stg c cc0_stg0_0 (xs m c)
    ∗ stg c cc0_stg1_0 (OUT m c))

theorem owes_in (c : Dev nD) : (dats m 0 c).owesAt () t0_0.castSucc ⊢ ow c (O₀ c) := by
  unfold Pipeline.Dat.owesAt Pipeline.owesWithin ow
  iintro ⟨%W, -, H⟩
  iexists W; iexact H
theorem owes_out (c : Dev nD) : ow c 0 ⊢ (dats m 0 c).owesAt () t0_0.succ := by
  unfold Pipeline.Dat.owesAt Pipeline.owesWithin ow
  iintro ⟨%W, H⟩
  iexists W
  isplitr
  · ipureintro; exact fun _ _ => Or.inl trivial
  iexact H

theorem x_in (c : Dev nD) :
    iprop(∃ d, stg c cc0_stg0_0 ((dats m 0 c).before (0 : Fin 2) t0_0 d)) ⊢ xPts m c := by
  unfold stg xPts
  iintro ⟨%d, %g, %hg, H⟩
  have hx : g = xs m c := by
    rw [hg]; unfold Pipeline.Dat.before; rw [if_pos (fetch0_0 t0_0)]; rfl
  subst hx
  iexact H
theorem o_in (c : Dev nD) :
    iprop(∃ d, stg c cc0_stg1_0 ((dats m 0 c).before (1 : Fin 2) t0_0 d)) ⊢ anyBuf c cc0_stg1_0 := by
  unfold stg anyBuf
  iintro ⟨%d, %g, -, H⟩
  iexists g; iexact H
theorem stg_out (c : Dev nD) (b : Ref sig .tc) (f : b.ty.Contents (Elt F)) :
    (((c : Thread nD τ).loc b) ↦{fullShare} f : sProp 𝕄) ⊢ stg c b f := by
  unfold stg
  iintro H
  iexists f
  isplitr
  · ipureintro; rfl
  iexact H

theorem body_meets (c : Dev nD) : bodyPre m c ⊢ runs c body (fun _ => bodyPost m c) := by
  unfold bodyPre bodyPost Φ₀ Φ₁
  iintro ⟨⟨⟨%N, He⟩, Hs, Hsp⟩, Ho, Hx, Hout⟩
  ihave Ho := (owes_in m c) $$ Ho
  ihave Hx := (x_in m c) $$ Hx
  ihave Hout := (o_in m c) $$ Hout
  iapply (body_runs m N c fun _ => iprop((endRes m c ∗ spare c) ∗ (dats m 0 c).owesAt () t0_0.succ
    ∗ stg c cc0_stg0_0 (xs m c) ∗ stg c cc0_stg1_0 (OUT m c))) $$ [He Ho Hs Hx Hout]
  · isplitl [He]; · iexact He
    isplitl [Ho]; · iexact Ho
    isplitl [Hs]; · iexact Hs
    isplitl [Hx]; · iexact Hx
    iexact Hout
  iintro ⟨Ho, Hend, Hx, Hout⟩
  isplitl [Hend Hsp]
  · isplitl [Hend]; · iexact Hend
    iexact Hsp
  isplitl [Ho]
  · iapply (owes_out m c); iexact Ho
  isplitl [Hx]
  · iapply (stg_out c cc0_stg0_0 (xs m c)); unfold xPts; iexact Hx
  · iapply (stg_out c cc0_stg1_0 (OUT m c)); iexact Hout

theorem body_obligation (c : Dev nD) :
    Pipeline.BodyObligation (dats m 0 c) (defs₀ (F := F)) 𝒱₀ () Set.univ := fun t => by
  rw [fin_N0 t, bigSep_W0, bigSep_W0]
  simp only [owns_whole_eq]
  have h := body_meets m c
  unfold runs at h
  rw [← body_eq] at h
  exact h

/-! ## The region's conditions -/

theorem share_eq (c : Dev nD) (w : Fin cfg0.W) : (dats m 0 c).share w = fullShare := by
  unfold Pipeline.Dat.share; split <;> rfl

theorem stage_kind : ∀ (w : Fin cfg0.W) (s : Fin (cfg0.win w).nbuf) (k : CK),
    csem k ≠ .dma ((cfg0.win w).sem s) := by decide +kernel

theorem waits (c : Dev nD) :
    (levAts L lv : sProp 𝕄) ⊢ Pipeline.cellsWaits cfgs (dats m) () 0 c :=
  Pipeline.cellsWaits_intro cfgs (dats m) () 0 c fun w s t =>
    mayWait (n := 0) c _ (by rw [lv_none (kind_none (stage_kind w s))]) (by
      rcases t with ⟨_ | _, ht⟩
      · exact above_O₀ c
      · exact above_zero 0)

/-- What a device holds on entering the region, besides its scratch buffers. -/
def X (c : Dev nD) : sProp 𝕄 :=
  iprop(levAts L lv ∗ (∃ N, known m N) ∗ own c ∗ credRes c ∗ wFull m c)
/-- What it holds on leaving it. -/
def Y (c : Dev nD) : sProp 𝕄 := iprop(unscopedSems0 c ∗ wFull m c)

theorem enter (c : Dev nD) :
    iprop(Pipeline.unscopedRestP Pipeline.Prefetch.none cfg0.spec c (fun b => m ((c : Thread nD τ).loc b))
        ∗ levAts L lv ∗ Pipeline.launchCred O₀ c ∗ prngReg c (ρ c) ∗ G' m c)
      ⊢ |={Set.univ}=> iprop(X m c ∗ emp) := by
  rw [Pipeline.unscopedRestP_none, unscopedRest0_eq]
  unfold G' X wFull ws
  iintro ⟨Hw, Hl, Hc, -, Hk, Ho⟩
  ihave Hc := (creds (F := F) c) $$ Hc
  imodintro
  isplitl
  · isplitl [Hl]; · iexact Hl
    isplitl [Hk]; · iexact Hk
    isplitl [Ho]; · iexact Ho
    isplitl [Hc]; · iexact Hc
    iexact Hw
  · iempintro

theorem start_in (c : Dev nD) :
    iprop(X m c ∗ Pipeline.prefHeld Pipeline.Prefetch.none c (fun _ => fullShare.right) (fun k => k.elim0)
        ∗ Pipeline.scopedRest cfg0.spec c)
      ⊢ (dats m 0 c).Φ 0 := by
  rw [show (dats m 0 c).Φ 0 = Φ₀ m c from rfl, scopedRest0_eq]
  unfold X Φ₀ startRes own bufRes anyBuf env known
  iintro ⟨⟨Hl, ⟨%N, Hi, Hr⟩, ⟨Hp, Ht, Hsp, H0, H1⟩, Hc, Hw⟩, -, Hb⟩
  isplitl [Hl Hi Hr]
  · iexists N
    isplitl [Hi]; · iexact Hi
    isplitl [Hr]; · iexact Hr
    iexact Hl
  isplitr [Hsp]
  · isplitl [Hp]; · iexact Hp
    isplitl [Ht]; · iexact Ht
    isplitl [Hc]; · iexact Hc
    isplitl [Hb]; · iexact Hb
    isplitl [Hw]; · iexact Hw
    isplitl [H0]; · iexact H0
    iexact H1
  · iexact Hsp

theorem end_out (c : Dev nD) :
    (dats m 0 c).Φ (Fin.last cfg0.N)
      ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Y Φ₁ endRes bufRes anyBuf
  rw [unscopedSems0_eq]
  iintro ⟨⟨Hb, Hs, Hbuf, Hw, H0, H1⟩, Hsp⟩
  isplitl [Hb Hw]
  · isplitl [Hb]; · iexact Hb
    iexact Hw
  isplitl [Hs Hsp H0 H1]
  · isplitl [Hs]; · iexact Hs
    isplitl [Hsp]; · iexact Hsp
    isplitl [H0]; · iexact H0
    iexact H1
  iexact Hbuf

/-! ## The run -/

/-- What is read off a device at the end, besides its windows' arrays. -/
def Ends (c : Dev nD) (s : MemSt nD τ sig (Elt F)) : Prop :=
  (∀ sm : SemLoc sig, sm.isScoped .tc = false → s.sem ((c.tc : Thread nD τ), sm) = 0)
    ∧ s.mem ((c : Thread nD τ).loc main_arg1) = ws m c

theorem read_end (c : Dev nD) (s' : Phys nD τ sig (Elt F)) :
    (iprop(Y m c ∗ emp ∗ SI s') : sProp 𝕄) ⊢ |={Set.univ}=> iprop(⌜Ends m c s'.mem⌝ ∗ SI s') := by
  unfold Y wFull
  iintro ⟨⟨Hu, Hw⟩, -, HSI⟩
  imod (Pipeline.unscopedSems0_read (X := unscopedSems0 c) (c := c) fupd_intro s') $$ [Hu HSI] with ⟨%hs, HSI⟩
  · isplitl [Hu] <;> iassumption
  ihave Hr := (pointsTo_read_all (Finset.univ : Finset Unit) (fun _ => (c : Thread nD τ).loc main_arg1)
    (fun _ => ws m c) s') $$ [Hw HSI]
  · isplitl [Hw]
    · iapply (Entails.of_eq (bigSep_singleton (i := ()) (Φ := fun _ : Unit =>
        (((c : Thread nD τ).loc main_arg1) ↦{fullShare} ws m c : sProp 𝕄))).symm)
      iexact Hw
    · iexact HSI
  icases Hr with ⟨%hw, HSI⟩
  imodintro
  isplitr
  · ipureintro; exact ⟨hs, hw () (Finset.mem_univ _)⟩
  iexact HSI

/-- Where the pipeline's and the protocol's rounds start. -/
def u₀ : UU :=
  (initOf (Pipeline.cells cfgs cellOf_inj) (Pipeline.launchToks cfgs cellOf_inj),
    (initOf allCells allToks, 1))

theorem u₀_split :
    (ownU (u₀ : UU) : sProp 𝕄)
      ⊢ iprop(BI.own (EP (initOf (Pipeline.cells cfgs cellOf_inj) (Pipeline.launchToks cfgs cellOf_inj)))
        ∗ BI.own (ER (initOf allCells allToks))) :=
  BI.own_op_elim ((uEmb (nD := nD) (sig := sig) (Ix := Unit) (Val := Elt F) (Name := ℕ) (U := UU)
    (Lvl := ℕ)).toEmb.op_of_mem
    (Prod.mk_mem_op (URA.mem_op_one _) (URA.mem_one_op (initOf allCells allToks, (1 : Counters)))))

theorem result_flushed (c : Dev nD) (t : Fin cfg0.N) :
    (dats m 0 c).flushed (1 : Fin 2) t = (win0_1.blk t).view.read (Elt F) (OUT m c) := by
  rw [fin_N0 t]
  show (fun y => OUT m c _) = _
  funext y
  refine Eq.trans ?_ (View.read_apply ..).symm
  show OUT m c _ = OUT m c _
  congr 1
  funext a
  apply Fin.ext
  refine Eq.trans ?_ (Pipeline.Window.rect_emb_val_of_index_zero win0_1 t0_0 a (by revert a; decide +kernel) y).symm
  rfl
theorem result_cover (i : S256x8192.Idx) :
    ∃ t : Fin cfg0.N, (cfg0.win 1).flush t = true ∧ i ∈ ((cfg0.win 1).blk t).view.set := by
  refine ⟨t0_0, flush0_1 _, ?_⟩
  show i ∈ ((View.whole main_v1).slice (win0_1.rect t0_0)).set
  rw [View.set_slice_whole, Rect.mem_set_unit]
  intro a
  have e : win0_1.index t0_0 a * win0_1.size a = 0
      ∧ win0_1.xsize (grid0.coords t0_0) a = S256x8192.size a := by
    revert a; decide +kernel
  show win0_1.index t0_0 a * win0_1.size a ≤ (i a : Nat)
    ∧ (i a : Nat) < win0_1.index t0_0 a * win0_1.size a + win0_1.xsize (grid0.coords t0_0) a
  rw [e.1, e.2, Nat.zero_add]
  exact ⟨Nat.zero_le _, (i a).isLt⟩
theorem result_final (c : Dev nD) : (dats m 0 c).arrAt (1 : Fin 2) cfg0.N = OUT m c :=
  (dats m 0 c).arrAt_eq_of_cover (1 : Fin 2) (OUT m c) (fun t _ => result_flushed m c t) result_cover

set_option maxRecDepth 8000 in
/-- The kernel terminates on all devices; every result is as computed, the arguments are unchanged
and every semaphore is at rest. -/
theorem run_main :
    θ_run defs (onTc (τ := τ) (main (F := F))) ⟨m, fun _ => 0, ρ⟩ (fun r => (∀ c : Dev nD,
      r.2.mem ((c.tc : Thread nD τ).loc main_v1) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_region_owing_glob_pf (fun p => (cfgs p).toPCfg) (fun p => (cfgs p).toPCfg_adm) (dats m) ()
    cellOf_inj (0 : Fin 1) winFacts0.to₀ ownSemFacts (Pipeline.PreFacts.none _) EP defs₀ 𝒱₀ m ρ main
    (hmain := fun _ => rfl)
    (hbody := body_obligation m) (hne := fun w => by fin_cases w <;> exact Nat.succ_pos _)
    (harr := arr_whole0) (hstage := stage_whole0) (hshare := share_eq m) (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      iintro Hu
      ihave H := (u₀_split (F := F)) $$ Hu
      icases H with ⟨HP, HX⟩
      imod (fund_all m) $$ HX with HG
      imodintro
      isplitl [HP] <;> iassumption)
    (hglob := glob m)
    (hA := fun _ _ => rfl) (hpf := fun _ k => k.elim0)
    (X := X m) (Y := Y m) (Z := fun _ => iprop(emp))
    (hX := enter m ρ) (hin := start_in m) (hout := end_out m)
    (QY := fun c s => Ends m c s) (hY := read_end m)
    (hQ := fun _ h hs => ⟨fun c =>
      ⟨((h c).1 (1 : Fin 2)).trans (result_final m c),
        ((h c).1 (0 : Fin 2)).trans ((dats m 0 c).arrAt_in (0 : Fin 2) rfl _), (h c).2.2.2⟩,
      sem_eq_zero hs fun c => (h c).2.2.1⟩)

end Cert.KernelIdeal.Own

end
-- ==== Proof.Quantise.lean ====
module

public import Idealize.ShloMosaic.PureOps.Ideal.Laws
public import Idealize.ShloMosaic.PureOps.Reduce

/-! # The quantiser over the extended reals

Where every entry is at most `m` in magnitude, an entry scaled by `448/m` and back by `m/448` is the
entry divided by `m/448`, clipped to 448 in magnitude, and multiplied by `m/448`: at `m = 0` and
`m = ∞` too. -/

@[expose] public section

noncomputable section

namespace Cert.Quantise

open Idealize.ShloMosaic

/-- The magnitude. -/
def mag (y : EReal) : EReal := max y (-y)

theorem mag_nonneg (y : EReal) : 0 ≤ mag y := by
  rcases le_total 0 y with h | h
  · exact le_max_of_le_left h
  · exact le_max_of_le_right (EReal.neg_nonneg.2 h)

theorem mag_le_iff {y b : EReal} : mag y ≤ b ↔ y ≤ b ∧ -y ≤ b := max_le_iff

/-- The pattern of 448 denotes it. -/
theorem bits_448 : Ideal.ofBits .f32 0x43E00000#32 = ((448 : ℝ) : EReal) := by
  simp [Ideal.ofBits, Ideal.ieee]
  rw [← EReal.coe_mul]
  norm_num

/-- The pattern of -448 denotes it. -/
theorem bits_neg_448 : Ideal.ofBits .f32 0xC3E00000#32 = ((-448 : ℝ) : EReal) := by
  simp [Ideal.ofBits, Ideal.ieee]
  rw [← EReal.coe_mul]
  norm_num

/-- The pattern of -∞ denotes it. -/
theorem bits_bot : Ideal.ofBits .f32 0xFF800000#32 = ⊥ := by
  simp [Ideal.ofBits, Ideal.ieee]

/-- Scaling by `448/m` and back is dividing by `m/448`, clipping and multiplying. -/
theorem scaled (y m : EReal) (h : mag y ≤ m) :
    y * Ideal.div ((448 : ℝ) : EReal) m * Ideal.div m ((448 : ℝ) : EReal)
      = min ((448 : ℝ) : EReal) (max ((-448 : ℝ) : EReal) (Ideal.div y (Ideal.div m ((448 : ℝ) : EReal))))
        * Ideal.div m ((448 : ℝ) : EReal) := by
  have h448 : ((448 : ℝ) : EReal) ≠ 0 := by
    exact_mod_cast (by norm_num : (448 : ℝ) ≠ 0)
  have hm : 0 ≤ m := (mag_nonneg y).trans h
  obtain ⟨h1, h2⟩ := mag_le_iff.1 h
  have e : Ideal.div m ((448 : ℝ) : EReal) = m * ((448 : ℝ) : EReal)⁻¹ := if_neg h448
  rw [e, ← EReal.coe_inv]
  induction m using EReal.rec with
  | bot => exact absurd hm (not_le.2 (EReal.bot_lt_zero))
  | top =>
    have t : (⊤ : EReal) * ((448⁻¹ : ℝ) : EReal) = ⊤ := EReal.top_mul_coe_of_pos (by norm_num)
    have d : Ideal.div y ⊤ = 0 := by
      rw [Ideal.div, if_neg EReal.top_ne_zero, EReal.inv_top, mul_zero]
    have d' : Ideal.div ((448 : ℝ) : EReal) ⊤ = 0 := by
      rw [Ideal.div, if_neg EReal.top_ne_zero, EReal.inv_top, mul_zero]
    rw [t, d, d', mul_zero, zero_mul]
    have : min ((448 : ℝ) : EReal) (max ((-448 : ℝ) : EReal) 0) = 0 := by
      rw [max_eq_right (by exact_mod_cast (by norm_num : (-448 : ℝ) ≤ 0)),
        min_eq_right (by exact_mod_cast (by norm_num : (0 : ℝ) ≤ 448))]
    rw [this, zero_mul]
  | coe r =>
    have hr : 0 ≤ r := by exact_mod_cast hm
    induction y using EReal.rec with
    | bot => exact absurd h2 (by simp)
    | top => exact absurd h1 (by simp)
    | coe z =>
      have z1 : z ≤ r := by exact_mod_cast h1
      have z2 : -z ≤ r := by exact_mod_cast h2
      rcases hr.eq_or_lt with rfl | hr
      · simp
      · have hr' : ((r : ℝ) : EReal) ≠ 0 := by exact_mod_cast hr.ne'
        have hs : ((r * 448⁻¹ : ℝ) : EReal) ≠ 0 := by
          exact_mod_cast (by positivity : (0 : ℝ) < r * 448⁻¹).ne'
        rw [← EReal.coe_mul, Ideal.div, if_neg hr', Ideal.div, if_neg hs, ← EReal.coe_inv,
          ← EReal.coe_inv, ← EReal.coe_mul, ← EReal.coe_mul, ← EReal.coe_mul, ← EReal.coe_mul]
        have b1 : z * (r * 448⁻¹)⁻¹ ≤ 448 := by
          rw [← div_eq_mul_inv, div_le_iff₀ (by positivity)]; linarith
        have b2 : -448 ≤ z * (r * 448⁻¹)⁻¹ := by
          rw [← div_eq_mul_inv, le_div_iff₀ (by positivity)]; linarith
        rw [max_eq_right (by exact_mod_cast b2), min_eq_right (by exact_mod_cast b1), ← EReal.coe_mul]
        congr 1
        field_simp

/-- A fold of maxima from -∞ is at most a bound when every member is. -/
theorem fold_le_iff {ι : Type} (s : Finset ι) (f : ι → EReal) (b : EReal) :
    s.fold max ⊥ f ≤ b ↔ ∀ i ∈ s, f i ≤ b := by
  rw [Finset.fold_max_le]
  exact ⟨fun h => h.2, fun h => ⟨bot_le, h⟩⟩

/-- A reduction by maximum to one entry, taken out, is at most a bound when every entry is. -/
theorem reduced_le_iff {s t u : Shape} {axes : List (Fin s.rank)} (x : FVec Ideal s .f32)
    (h : s.Reduces axes t) (ht : ∀ a, t.size a = 1) (hφ : FKind.Formats .f32)
    (hacc : (0xFF800000#32 : BitVec FTy.f32.bits) = FKind.maximumf.neutral .f32 hφ) (hc : t.ShapeCasts u)
    (pos : Fin u.rank → Nat) (hp : ∀ a, pos a < u.size a) (b : EReal) :
    extractAt pos (shapeCast u (multiReduction .maximumf axes t x 0xFF800000#32 h hφ hacc : FVec Ideal t .f32) hc) hp ≤ b
      ↔ ∀ i, x i ≤ b := by
  show multiReduction .maximumf axes t x 0xFF800000#32 h hφ hacc (Shape.reshapeEquiv hc _) ≤ b ↔ _
  rw [multiReduction_maximumf_eq_fold, Finset.filter_true_of_mem fun i _ => funext fun a => Fin.ext (by
    have := (h.drop i a).isLt; have := ht a
    have := ((Shape.reshapeEquiv hc (fun a => (⟨pos a, hp a⟩ : Fin (u.size a)))) a).isLt; omega)]
  show Finset.univ.fold max (Ideal.ofBits .f32 0xFF800000#32) x ≤ b ↔ _
  rw [bits_bot, fold_le_iff]
  exact ⟨fun h i => h i (Finset.mem_univ i), fun h i _ => h i⟩

/-- A host's reduction by maximum to one entry likewise. -/
theorem host_le_iff {s t u : Shape} {axes : List (Fin s.rank)} (x : FVec Ideal s .f32) (h : s.ReducesTo axes t)
    (ht : ∀ a, t.size a = 1) (hu : 0 < u.numel) (j : t.Idx) (b : EReal) :
    Host.reduce (FloatOps.maximumf (F := Ideal)) x (constant u .f32 0xFF800000#32) h hu j ≤ b ↔ ∀ i, x i ≤ b := by
  rw [Host.reduce_eq_fold, Finset.filter_true_of_mem fun i _ => funext fun a => Fin.ext (by
    have := (h.drop i a).isLt; have := ht a; have := (j a).isLt; omega)]
  show Finset.univ.fold max (Ideal.ofBits .f32 0xFF800000#32) x ≤ b ↔ _
  rw [bits_bot, fold_le_iff]
  exact ⟨fun h i => h i (Finset.mem_univ i), fun h i _ => h i⟩

/-- A bound on every entry does not depend on the array's shape. -/
theorem cast_le_iff {s t : Shape} (x : s.Idx → EReal) (h : s.ShapeCasts t) (b : EReal) :
    (∀ i, shapeCast t x h i ≤ b) ↔ ∀ i, x i ≤ b := by
  constructor
  · intro H i
    have := H ((Shape.reshapeEquiv h).symm i)
    rwa [shapeCast, Equiv.apply_symm_apply] at this
  · exact fun H i => H _

end Cert.Quantise

end
-- ==== Proof.Value.lean ====
module

public import proofs.«01_k».proof.Proof.Contents
public import proofs.«01_k».proof.Proof.Quantise
public import Idealize.ShloMosaic.Lib.Layout
public import Idealize.ShloMosaic.Lib.MatmulPlain
public import Idealize.ShloMosaic.Lib.Pipeline.Value

/-! # What the kernel computes

Over the extended reals, with the columns of `X` dealt to the devices and `W` on each of them: the
product, its largest magnitude and the result, entry by entry. -/

@[expose] public section

noncomputable section

namespace Cert.KernelIdeal.Own

open Cert.KernelIdeal Cert.KernelIdeal.Gen Cert.Quantise
open Idealize.ShloMosaic Idealize.ShloMosaic.TcCoe Idealize.ShloMosaic.ValueIdx Idealize.SL.Sem
open scoped BigOperators

/-- One entry of the product of two matrices. -/
def entry (X : (⟨2, ![4096, 4096]⟩ : Shape).Idx → EReal) (W : (⟨2, ![4096, 8192]⟩ : Shape).Idx → EReal)
    (i : Fin 4096) (n : Fin 8192) : EReal := ∑ k : Fin 4096, X (ix2 i k) * W (ix2 k n)

/-- Row `r` of the rows of device `c`. -/
def row (c : Dev nD) (r : Fin 256) : Fin 4096 := ⟨256 * c.val + r.val, by have : c.val < 16 := c.isLt; omega⟩
/-- Place `k` of group `g` of the contracted places. -/
def mid (g : Fin 4) (k : Fin 1024) : Fin 4096 := ⟨1024 * g.val + k.val, by omega⟩
/-- Column `n` of tile `q` of the columns. -/
def col (q : Fin 4) (n : Fin 2048) : Fin 8192 := ⟨2048 * q.val + n.val, by omega⟩

variable (m : (ℓ : Loc nD τ sig) → Buf (Elt Ideal) ℓ)
variable (X : (⟨2, ![4096, 4096]⟩ : Shape).Idx → EReal) (W : (⟨2, ![4096, 8192]⟩ : Shape).Idx → EReal)

/-- Device `c` holds block `c` of the columns of `X`, and `W`. -/
structure Dealt : Prop where
  /-- the blocks of `X` -/
  x : ∀ c : Dev nD, m ((c : Thread nD τ).loc main_arg0)
    = Layout.block ⟨2, ![4096, 256]⟩ ⟨2, ![4096, 4096]⟩ 1 16 c X
  /-- the copies of `W` -/
  w : ∀ c : Dev nD, m ((c : Thread nD τ).loc main_arg1) = W

variable {m X W} (D : Dealt m X W)
include D

/-! ## The arguments as they are read -/

/-- The columns of `X` on device `c`. -/
theorem xs_eq (c : Dev nD) (i : Fin 4096) (k : Fin 256) :
    xs m c (ix2 i k) = X (ix2 i ⟨256 * c.val + k.val, by have : c.val < 16 := c.isLt; omega⟩) := by
  have h : xs m c (ix2 i k) = m ((c : Thread nD τ).loc main_arg0) (ix2 i k) :=
    congrArg (m ((c : Thread nD τ).loc main_arg0)) (funext fun a => Fin.ext
      (Pipeline.Window.rect_emb_val_of_index_zero win0_0 (0 : Fin 1) a (by revert a; decide +kernel) (ix2 i k)))
  rw [h, D.x c]
  refine congrArg X (funext fun a => Fin.ext ?_)
  match a with
  | ⟨0, _⟩ => rfl
  | ⟨1, _⟩ => exact congrArg (· + k.val) (Nat.mul_comm _ _)

/-- The rows that device `s` sends to device `e`. -/
theorem XB_eq (s e : Dev nD) (r k : Fin 256) :
    XB m s e (ix2 r k) = X (ix2 (row e r) ⟨256 * s.val + k.val, by have : s.val < 16 := s.isLt; omega⟩) := by
  have h : XB m s e (ix2 r k) = rowsOf m s e (ix2 r k) :=
    congrFun (shapeCast_self (rowsOf m s e) shapeCasts_S256x256_S256x256) (ix2 r k)
  have h' : rowsOf m s e (ix2 r k) = xs m s (ix2 (row e r) k) := by
    refine congrArg (xs m s) (funext fun a => Fin.ext ?_)
    show k0_off3 e a + 1 * (ix2 r k a).val = _
    rw [k0_off3_eq, Nat.one_mul]
    match a with
    | ⟨0, _⟩ => rfl
    | ⟨1, _⟩ => exact Nat.zero_add _
  rw [h, h', xs_eq D]

/-- The gathered rows of device `c`. -/
theorem XR_eq (c : Dev nD) (r : Fin 256) (k : Fin 4096) : XR m c (ix2 r k) = X (ix2 (row c r) k) := by
  refine Eq.trans (?_ : _ = XB m ⟨k.val / 256, by show _ < 16; omega⟩ c
    (ix2 r ⟨k.val % 256, Nat.mod_lt _ (by decide)⟩)) ?_
  · exact congrArg (XB m _ c) (funext fun a => match a with
      | ⟨0, _⟩ => rfl
      | ⟨1, _⟩ => rfl)
  · rw [XB_eq D]
    exact congrArg (fun k => X (ix2 (row c r) k)) (Fin.ext (Nat.div_add_mod k.val 256))

/-- The row block of a round. -/
theorem XG_eq (c : Dev nD) (j : Fin 4) (r : Fin 256) (k : Fin 1024) :
    XG m c j (ix2 r k) = X (ix2 (row c r) (mid (grp c j) k)) := by
  refine Eq.trans (congrArg (XR m c) (funext fun a => Fin.ext ?_) :
    _ = XR m c (ix2 r (mid (grp c j) k))) (XR_eq D c r _)
  show k0_off13 c (BitVec.ofNat 32 j.val) a + 1 * (ix2 r k a).val = _
  rw [off13_eq, Nat.one_mul]
  match a with
  | ⟨0, _⟩ => exact Nat.zero_add _
  | ⟨1, _⟩ => rfl

/-- A tile of `W`. -/
theorem WT_eq (c : Dev nD) (g q : Fin 4) (k : Fin 1024) (n : Fin 2048) :
    WT m c g q (ix2 k n) = W (ix2 (mid g k) (col q n)) := by
  refine Eq.trans (?_ : _ = ws m c (ix2 (mid g k) (col q n))) (congrFun (D.w c) _)
  refine congrArg (ws m c) (funext fun a => Fin.ext ?_)
  match a with
  | ⟨0, _⟩ => show g.val * 1024 + 1 * k.val = 1024 * g.val + k.val; omega
  | ⟨1, _⟩ => show q.val * 2048 + 1 * n.val = 2048 * q.val + n.val; omega

/-! ## The product -/

/-- The part of an entry that one group of places adds. -/
def part (X : (⟨2, ![4096, 4096]⟩ : Shape).Idx → EReal) (W : (⟨2, ![4096, 8192]⟩ : Shape).Idx → EReal)
    (i : Fin 4096) (n : Fin 8192) (g : Fin 4) : EReal :=
  ∑ k : Fin 1024, X (ix2 i (mid g k)) * W (ix2 (mid g k) n)

/-- A round's product of the gathered rows with its tile is its group's part of the entry. -/
theorem round_eq (c : Dev nD) (j q : Fin 4) (r : Fin 256) (n : Fin 2048) :
    dot2 (XG m c j) (WT m c (grp c j) q) (ix2 r n) = part X W (row c r) (col q n) (grp c j) := by
  refine (Ideal.matmul_plain_apply (M := 256) (K := 1024) (N := 2048) none (XG m c j)
    (WT m c (grp c j) q : FVec Ideal S1024x2048 .f32) (constant S256x2048 .f32 0x00000000#32) r n).trans ?_
  rw [show (constant S256x2048 .f32 0x00000000#32 : FVec Ideal S256x2048 .f32) (ix2 r n) = 0 from
    Ideal.ofBits_zero_f32, zero_add]
  exact Finset.sum_congr rfl fun k _ => by rw [XG_eq D, WT_eq D]

omit D in
/-- The four groups' parts make up the entry, in whatever round each is added. -/
theorem parts_eq (c : Dev nD) (i : Fin 4096) (n : Fin 8192) :
    ((part X W i n (grp c 0) + part X W i n (grp c 1)) + part X W i n (grp c 2)) + part X W i n (grp c 3)
      = entry X W i n := by
  have hb : Function.Bijective (grp c) := by revert c; decide +kernel
  have h4 := Fin.sum_univ_four fun j => part X W i n (grp c j)
  rw [← h4, hb.sum_comp (part X W i n)]
  unfold part entry
  rw [← Fintype.sum_prod_type' (f := fun g k => X (ix2 i (mid g k)) * W (ix2 (mid g k) n))]
  refine Fintype.sum_bijective (fun p : Fin 4 × Fin 1024 => mid p.1 p.2) ⟨?_, ?_⟩ _ _ fun _ => rfl
  · rintro ⟨g, k⟩ ⟨g', k'⟩ e
    have e' : 1024 * g.val + k.val = 1024 * g'.val + k'.val := congrArg Fin.val e
    have h1 : g = g' := Fin.ext (by omega)
    have h2 : k = k' := Fin.ext (by subst h1; omega)
    rw [h1, h2]
  · intro k
    exact ⟨(⟨k.val / 1024, by omega⟩, ⟨k.val % 1024, Nat.mod_lt _ (by decide)⟩),
      Fin.ext (Nat.div_add_mod k.val 1024)⟩

/-- The tiles hold the product once the four rounds are done. -/
theorem YT_eq (c : Dev nD) (q : Fin 4) (r : Fin 256) (n : Fin 2048) :
    YT m c q 3 (ix2 r n) = entry X W (row c r) (col q n) := by
  have step : ∀ t, YT m c q (t + 1) (ix2 r n) = YT m c q t (ix2 r n)
      + dot2 (XG m c (Fin.ofNat 4 (t + 1))) (WT m c (grp c (Fin.ofNat 4 (t + 1))) q) (ix2 r n) := fun t =>
    congrFun (shapeCast_self (addf (YT m c q t)
      (dot2 (XG m c (Fin.ofNat 4 (t + 1))) (WT m c (grp c (Fin.ofNat 4 (t + 1))) q)))
      shapeCasts_S256x2048_S256x2048) (ix2 r n)
  have first : YT m c q 0 (ix2 r n) = dot2 (XG m c 0) (WT m c (grp c 0) q) (ix2 r n) :=
    congrFun (shapeCast_self (dot2 (XG m c 0) (WT m c (grp c 0) q))
      shapeCasts_S256x2048_S256x2048) (ix2 r n)
  rw [step, step, step, first, round_eq D, round_eq D, round_eq D, round_eq D]
  exact parts_eq c _ _

/-! ## The largest magnitude -/

omit D in
/-- What bounds the maximum of a tile. -/
theorem tileMax_le_iff (y : Vec Ideal S256x2048 .f32) (b : EReal) :
    (tileMax y : EReal) ≤ b ↔ ∀ i, mag (y i) ≤ b := by
  exact (reduced_le_iff _ reduces_S1x256x2048_S1 (by decide) _ _ _ _ _ b).trans
    (cast_le_iff (fun i => mag (y i)) shapeCasts_S256x2048_S1x256x2048 b)

omit D in
/-- What bounds the maximum with a peer's tile. -/
theorem maxStep_le_iff (a : Ideal .f32) (v : Vec Ideal S1x8x128 .f32) (b : EReal) :
    (maxStep a v : EReal) ≤ b ↔ a ≤ b ∧ ∀ i, v i ≤ b := by
  exact (max_le_iff (α := EReal)).trans (and_congr Iff.rfl
    ((reduced_le_iff _ reduces_S1x8x128_S1 (by decide) _ _ _ _ _ b).trans
      ((cast_le_iff _ shapeCasts_S8x128_S1x8x128 b).trans (cast_le_iff v shapeCasts_S1x8x128_S8x128 b))))

omit D in
/-- What bounds the maximum of four. -/
theorem nested_le_iff (a0 a1 a2 a3 : Ideal .f32) (b : EReal) :
    (Scalar.maximumf (Scalar.maximumf (Scalar.maximumf a0 a1) a2) a3 : EReal) ≤ b
      ↔ ((a0 ≤ b ∧ a1 ≤ b) ∧ a2 ≤ b) ∧ a3 ≤ b := by
  have nest : ∀ a0 a1 a2 a3 : EReal, max (max (max a0 a1) a2) a3 ≤ b ↔ ((a0 ≤ b ∧ a1 ≤ b) ∧ a2 ≤ b) ∧ a3 ≤ b :=
    fun _ _ _ _ => by rw [max_le_iff, max_le_iff, max_le_iff]
  exact nest a0 a1 a2 a3

omit D in
/-- What bounds the maximum of the four tiles. -/
theorem ownMax_le_iff (y0 y1 y2 y3 : Vec Ideal S256x2048 .f32) (b : EReal) :
    (ownMax y0 y1 y2 y3 : EReal) ≤ b ↔ (((∀ i, mag (y0 i) ≤ b) ∧ ∀ i, mag (y1 i) ≤ b) ∧ ∀ i, mag (y2 i) ≤ b)
      ∧ ∀ i, mag (y3 i) ≤ b := by
  rw [← tileMax_le_iff y0, ← tileMax_le_iff y1, ← tileMax_le_iff y2, ← tileMax_le_iff y3]
  exact nested_le_iff (tileMax y0) (tileMax y1) (tileMax y2) (tileMax y3) b

/-- A bound on a tile is one on its part of the product. -/
theorem tile_le_iff (c : Dev nD) (q : Fin 4) (b : EReal) :
    (∀ i, mag (YT m c q 3 i) ≤ b) ↔ ∀ r n, mag (entry X W (row c r) (col q n)) ≤ b := by
  constructor
  · intro h r n
    rw [← YT_eq D]; exact h _
  · intro h i
    obtain ⟨r, n, rfl⟩ : ∃ (r : Fin 256) (n : Fin 2048), i = ix2 r n := ⟨i 0, i 1, eq_ix2 i⟩
    rw [YT_eq D]; exact h r n

/-- A device's own maximum bounds the magnitudes of its rows, and is the least that does. -/
theorem lmax_le_iff (c : Dev nD) (b : EReal) :
    (lmax m c : EReal) ≤ b ↔ ∀ r n, mag (entry X W (row c r) n) ≤ b := by
  have nest := ownMax_le_iff (YT m c 0 3) (YT m c 1 3) (YT m c 2 3) (YT m c 3 3) b
  rw [tile_le_iff D, tile_le_iff D, tile_le_iff D, tile_le_iff D] at nest
  refine nest.trans ⟨fun h r n => ?_, fun h => ⟨⟨⟨fun r n => h r _, fun r n => h r _⟩, fun r n => h r _⟩,
    fun r n => h r _⟩⟩
  have all : ∀ (q : Fin 4) (n : Fin 2048), mag (entry X W (row c r) (col q n)) ≤ b := fun q n => match q with
    | 0 => h.1.1.1 r n
    | 1 => h.1.1.2 r n
    | 2 => h.1.2 r n
    | 3 => h.2 r n
  have := all ⟨n.val / 2048, by omega⟩ ⟨n.val % 2048, Nat.mod_lt _ (by decide)⟩
  rwa [show col ⟨n.val / 2048, by omega⟩ ⟨n.val % 2048, Nat.mod_lt _ (by decide)⟩ = n from
    Fin.ext (Nat.div_add_mod n.val 2048)] at this

omit D in
/-- What bounds the maximum over a list of peers. -/
theorem gmaxOn_le_iff (c : Dev nD) (l : List (Fin 15)) (a : Ideal .f32) (b : EReal) :
    (gmaxOn m c l a : EReal) ≤ b ↔ a ≤ b ∧ ∀ r ∈ l, (lmax m (peer c r.rev) : EReal) ≤ b := by
  induction l generalizing a with
  | nil => exact ⟨fun h => ⟨h, fun _ hr => absurd hr List.not_mem_nil⟩, fun h => h.1⟩
  | cons r l ih =>
    refine (ih _).trans ((and_congr_left' (maxStep_le_iff a _ b)).trans ?_)
    rw [List.forall_mem_cons, and_assoc]
    exact and_congr_right' (and_congr_left' ⟨fun h => h fun a => ⟨0, by revert a; decide⟩, fun h _ => h⟩)

/-- The maximum over all devices bounds the magnitudes of the product, and is the least that does. -/
theorem gmax_le_iff (c : Dev nD) (b : EReal) :
    (gmax m c : EReal) ≤ b ↔ ∀ i n, mag (entry X W i n) ≤ b := by
  refine (gmaxOn_le_iff c peers (lmax m c) b).trans ⟨fun h => ?_, fun h =>
    ⟨(lmax_le_iff D c b).2 fun r n => h _ n, fun r _ => (lmax_le_iff D _ b).2 fun r n => h _ n⟩⟩
  have all : ∀ s : Dev nD, (lmax m s : EReal) ≤ b := by
    intro s
    by_cases e : s = c
    · rw [e]; exact h.1
    · have := h.2 (ix c s) (by generalize ix c s = r; revert r; decide)
      rwa [peer_rev_ix c s e] at this
  intro i n
  have := (lmax_le_iff D (⟨i.val / 256, by show _ < 16; omega⟩ : Dev nD) b).1 (all _)
    ⟨i.val % 256, Nat.mod_lt _ (by decide)⟩ n
  rwa [show row ⟨i.val / 256, by show _ < 16; omega⟩ ⟨i.val % 256, Nat.mod_lt _ (by decide)⟩ = i from
    Fin.ext (Nat.div_add_mod i.val 256)] at this

/-! ## The result -/

omit D in
/-- An entry of the quantised tile taken back. -/
theorem outPay_apply (a : Ideal .f32) (y : Vec Ideal S256x2048 .f32) (i : S256x2048.Idx) :
    outPay a y i = (y i : EReal) * Ideal.div ((448 : ℝ) : EReal) a * Ideal.div a ((448 : ℝ) : EReal) := by
  rw [← bits_448]; rfl

/-- The result on device `c`. -/
theorem OUT_eq (c : Dev nD) (r : Fin 256) (n : Fin 8192) :
    OUT m c (ix2 r n) = entry X W (row c r) n * Ideal.div ((448 : ℝ) : EReal) (gmax m c)
      * Ideal.div (gmax m c) ((448 : ℝ) : EReal) := by
  have e : OUT m c (ix2 r n) = outPay (gmax m c) (YT m c ⟨n.val / 2048, by omega⟩ 3)
      (ix2 r ⟨n.val % 2048, Nat.mod_lt _ (by decide)⟩) :=
    congrArg (outPay (gmax m c) (YT m c _ 3)) (funext fun a => match a with
      | ⟨0, _⟩ => rfl
      | ⟨1, _⟩ => rfl)
  rw [e, outPay_apply, YT_eq D, show col ⟨n.val / 2048, by omega⟩ ⟨n.val % 2048, Nat.mod_lt _ (by decide)⟩ = n from
    Fin.ext (Nat.div_add_mod n.val 2048)]

end Cert.KernelIdeal.Own

end
-- ==== Proof.Answer.lean ====
module

public import proofs.«01_k».proof.Proof.Gen.ReferenceIdeal.Value

/-! # The reference's result

What the reference leaves in its result array, as one function of its two arguments. -/

@[expose] public section

noncomputable section

namespace Cert.ReferenceIdeal.Own

open Cert.ReferenceIdeal Cert.ReferenceIdeal.Gen
open Idealize.ShloMosaic Idealize.ShloMosaic.TcCoe Idealize.SL.Sem

variable {F : FTy → Type} [FloatOps F]

/-- The product of the two arguments, both rounded to bfloat16. -/
def prod (x : FVec F S4096x4096 .f32) (w : FVec F S4096x8192 .f32) : FVec F S4096x8192 .f32 :=
  Host.dotGeneral dot_S4096x4096_S4096x8192_S4096x8192_1_0_0_1_n_n none
    (truncf .bf16 x bitsLt_bf16_f32) (truncf .bf16 w bitsLt_bf16_f32)
/-- The largest magnitude of an array. -/
def largest (y : FVec F S4096x8192 .f32) : FVec F S_ .f32 :=
  Host.reduce FloatOps.maximumf (Host.absf y) (constant S_ .f32 0xFF800000#32)
    reducesTo_S4096x8192_S_d0_1 h_S_
/-- The scale, as the one entry of a matrix. -/
def scale (y : FVec F S4096x8192 .f32) : FVec F S1x1 .f32 :=
  shapeCast S1x1 (Host.divf (largest y) (constant S_ .f32 0x43E00000#32)) shapeCasts_S_S1x1
/-- The place of the one entry. -/
def one : S1x1.Idx := fun a => ⟨0, by revert a; decide⟩
/-- The result for a given product: quantised with its scale and taken back. -/
def answer (y : FVec F S4096x8192 .f32) : FVec F S4096x8192 .f32 := k0_pay1 (scale y one) y

variable (m : (ℓ : Loc nD τ sig) → Buf (Elt F) ℓ) (ρ : Dev nD → PrngReg)

/-- The product of the arguments as they are at launch. -/
abbrev prodAt (c : Dev nD) : FVec F S4096x8192 .f32 :=
  prod (m ((c : Thread nD τ).loc main_arg0)) (m ((c : Thread nD τ).loc main_arg1))

/-- The host's lines leave the product in the first operand of the call. -/
theorem entry_prod (c : Dev nD) : V m c main_v2 = prodAt m c := by
  unfold_abbrev_sides
  after_results
  rfl

/-- They leave the scale in the second. -/
theorem entry_scale (c : Dev nD) : V m c main_v6 = scale (prodAt m c) := by
  unfold_abbrev_sides
  after_results
  rfl

theorem corner : (![0, 0] : Fin 2 → Nat) = fun _ => 0 := funext fun a => by fin_cases a <;> rfl

/-- The call's one store leaves its value for the block and the word it read. -/
theorem stored (c : Dev nD) (a0 : Memref sig .tc .vmem S4096x8192 .f32) (h0 : a0.IsWhole)
    (a1 : Memref sig .tc .smem S1x1 .f32) (h1 : a1.IsWhole)
    (a2 : Memref sig .tc .vmem S4096x8192 .f32) (h2 : a2.IsWhole)
    (y : Vec F S4096x8192 .f32) (s : Vec F S1x1 .f32) :
    out0_A_2 c a0 h0 a1 h1 a2 h2 y s = k0_pay1 (s one) y := by
  unfold out0_A_2
  rw [View.read_writes_junk_eq_canon]
  show View.canon ([⟨Rect.unit ![0, 0] S4096x8192.size inb_S4096x8192_S4096x8192_0_0,
      k0_pay1
        (a1.view.readAt (Elt F)
          (Rect.unit (s := S1x1) ![0, 0] S1x1.size inb_S1x1_S1x1_0_0).toLoadRect (h1.unread s) _)
        (a0.view.readAt (Elt F)
          (Rect.unit ![0, 0] S4096x8192.size inb_S4096x8192_S4096x8192_0_0).toLoadRect
          (h0.unread y))⟩] : List (View.Piece (Elt F) S4096x8192 .f32)) = _
  rw [View.canon_unit_zero corner, View.readAt_eq_ld, View.readAt_eq_ld, h0.read_unread,
    h1.read_unread, View.ld_unit_zero corner, View.ld_unit_zero corner]
  exact congrArg (fun i => k0_pay1 (s i) y) (funext fun a => Fin.ext (by
    have h : ∀ (i : S1x1.Idx) (a : Fin 2), (i a).val = 0 := fun i a => by
      have := (i a).isLt
      match a with
      | ⟨0, _⟩ => exact Nat.lt_one_iff.1 this
      | ⟨1, _⟩ => exact Nat.lt_one_iff.1 this
    exact (h _ a).trans (h one a).symm))

/-! A place of a window's one block is the same place of its array. -/

theorem place0 (t : Fin cfg0.N) (j : S4096x8192.Idx) : ((cfg0.win 0).blk t).view.emb j = j := by
  rw [fin_N0 t]
  exact funext fun a => Fin.ext
    (Pipeline.Window.rect_emb_val_of_index_zero win0_0 t0_0 a (by revert a; decide +kernel) j)
theorem place1 (t : Fin cfg0.N) (j : S1x1.Idx) : ((cfg0.win 1).blk t).view.emb j = j := by
  rw [fin_N0 t]
  exact funext fun a => Fin.ext
    (Pipeline.Window.rect_emb_val_of_index_zero win0_1 t0_0 a (by revert a; decide +kernel) j)
theorem place2 (t : Fin cfg0.N) (j : S4096x8192.Idx) : ((cfg0.win 2).blk t).view.emb j = j := by
  rw [fin_N0 t]
  exact funext fun a => Fin.ext
    (Pipeline.Window.rect_emb_val_of_index_zero win0_2 t0_0 a (by revert a; decide +kernel) j)

theorem block_prod (c : Dev nD) (t : Fin cfg0.N) : iblk m c 0 t = prodAt m c := by
  rw [← entry_prod]
  funext j
  show V m c main_v2 (((cfg0.win 0).blk t).view.emb j) = V m c main_v2 j
  rw [place0]

theorem block_scale (c : Dev nD) (t : Fin cfg0.N) : iblk m c 1 t = scale (prodAt m c) := by
  rw [← entry_scale]
  funext j
  show V m c main_v6 (((cfg0.win 1).blk t).view.emb j) = V m c main_v6 j
  rw [place1]

/-- The call writes back the result for the product. -/
theorem written (c : Dev nD) (t : Fin cfg0.N) :
    (dats m 0 c).flushed 2 t = ((cfg0.win 2).blk t).view.read (Elt F) (answer (prodAt m c)) := by
  rw [Value.flushed2_A, stored, block_prod, block_scale]
  funext j
  show answer (prodAt m c) j = answer (prodAt m c) (((cfg0.win 2).blk t).view.emb j)
  rw [place2]

/-- The block is the whole of the result array. -/
theorem whole (i : S4096x8192.Idx) :
    ∃ t : Fin cfg0.N, (cfg0.win 2).flush t = true ∧ i ∈ ((cfg0.win 2).blk t).view.set :=
  ⟨t0_0, flush0_2 _, by
    have h := ((cfg0.win 2).blk t0_0).view.emb_mem_set i
    rwa [place2] at h⟩

/-- The reference runs to its result, its arguments unchanged. -/
theorem run_answer : θ_run defs (onTc (τ := τ) (main (F := F))) ⟨m, fun _ => 0, ρ⟩ fun r => ∀ c : Dev nD,
      r.2.mem ((c : Thread nD τ).loc main_v7) = answer (prodAt m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono
    (fun _ h c => ⟨(h c).1.trans ((dats m 0 c).arrAt_eq_of_cover 2 (answer (prodAt m c))
      (fun t _ => written m c t) whole), (h c).2⟩)
    (Value.run_blocks m ρ)

end Cert.ReferenceIdeal.Own

end
-- ==== Proof.Agree.lean ====
module

public import proofs.«01_k».proof.Proof.Value
public import proofs.«01_k».proof.Proof.Answer

/-! # The kernel's result is the reference's

Device `c` ends with block `c` of the rows of the reference's result. -/

@[expose] public section

noncomputable section

namespace Cert.Agree

open Cert.KernelIdeal.Own Cert.ReferenceIdeal.Own Cert.Quantise
open Cert.ReferenceIdeal Cert.ReferenceIdeal.Gen
open Idealize.ShloMosaic Idealize.ShloMosaic.TcCoe Idealize.ShloMosaic.ValueIdx Idealize.SL.Sem
open scoped BigOperators

/-! ## The reference, entry by entry -/

/-- An entry of the reference's product. -/
theorem prod_eq (X : FVec Ideal S4096x4096 .f32) (W : FVec Ideal S4096x8192 .f32) (i : Fin 4096) (n : Fin 8192) :
    prod X W (ix2 i n) = entry X W i n := by
  have h := Ideal.matmul_plain_apply (M := 4096) (K := 4096) (N := 8192) (φ₁ := .bf16) (φ₂ := .bf16) none
    (truncf .bf16 X bitsLt_bf16_f32) (truncf .bf16 W bitsLt_bf16_f32)
    (constant (⟨2, ![4096, 8192]⟩ : Shape) .f32 0x00000000#32) i n
  rw [Ideal.matmul_constant_zero_apply, ← Ideal.dotGeneral_apply _ none .single] at h
  refine h.trans ?_
  rw [show (constant (⟨2, ![4096, 8192]⟩ : Shape) .f32 0x00000000#32 : FVec Ideal _ .f32) (ix2 i n) = 0 from
    Ideal.ofBits_zero_f32, zero_add]
  rfl

/-- The largest magnitude of an array bounds its magnitudes, and is the least that does. -/
theorem largest_le_iff (y : FVec Ideal S4096x8192 .f32) (j : S_.Idx) (b : EReal) :
    (largest y j : EReal) ≤ b ↔ ∀ i, mag (y i) ≤ b :=
  host_le_iff (fun i => mag (y i)) reducesTo_S4096x8192_S_d0_1 (fun a => a.elim0) h_S_ j b

/-- An entry of the reference's result. -/
theorem answer_apply (y : FVec Ideal S4096x8192 .f32) (i : S4096x8192.Idx) :
    ∃ j, answer y i = min ((448 : ℝ) : EReal) (max ((-448 : ℝ) : EReal)
        (Ideal.div (y i) (Ideal.div (largest y j) ((448 : ℝ) : EReal))))
      * Ideal.div (largest y j) ((448 : ℝ) : EReal) := by
  refine ⟨Shape.reshapeEquiv shapeCasts_S_S1x1 one, ?_⟩
  rw [← bits_448, ← bits_neg_448]
  have h := shapeCast_self y shapeCasts_S4096x8192_S4096x8192
  unfold answer k0_pay1
  rw [h]
  rfl

/-! ## The two together -/

variable {m : (ℓ : Loc Cert.KernelIdeal.nD Cert.KernelIdeal.τ Cert.KernelIdeal.sig) → Buf (Elt Ideal) ℓ}
variable {X : FVec Ideal S4096x4096 .f32} {W : FVec Ideal S4096x8192 .f32} (D : Dealt m X W)
include D

/-- The maximum over all devices is the largest magnitude of the reference's product. -/
theorem gmax_eq (c : Dev Cert.KernelIdeal.nD) (j : S_.Idx) : gmax m c = largest (prod X W) j := by
  refine eq_of_forall_ge_iff (α := EReal) fun b => (gmax_le_iff D c b).trans ((largest_le_iff _ j b).trans ?_).symm
  constructor
  · intro h i n
    rw [← prod_eq]; exact h _
  · intro h i
    obtain ⟨r, n, rfl⟩ : ∃ (r : Fin 4096) (n : Fin 8192), i = ix2 r n := ⟨i 0, i 1, eq_ix2 i⟩
    rw [prod_eq]; exact h r n

/-- Device `c`'s result is block `c` of the rows of the reference's. -/
theorem out_eq (c : Dev Cert.KernelIdeal.nD) :
    OUT m c = Layout.block ⟨2, ![256, 8192]⟩ ⟨2, ![4096, 8192]⟩ 0 16 c (answer (prod X W)) := by
  funext i
  obtain ⟨r, n, rfl⟩ : ∃ (r : Fin 256) (n : Fin 8192), i = ix2 r n := ⟨i 0, i 1, eq_ix2 i⟩
  have e : (Layout.block ⟨2, ![256, 8192]⟩ ⟨2, ![4096, 8192]⟩ 0 16 c (answer (prod X W)) :
      (⟨2, ![256, 8192]⟩ : Shape).Idx → EReal) (ix2 r n)
      = answer (prod X W) (ix2 (row c r) n) := by
    refine congrArg (answer (prod X W)) (funext fun a => Fin.ext ?_)
    match a with
    | ⟨0, _⟩ => exact congrArg (· + r.val) (Nat.mul_comm c.val 256)
    | ⟨1, _⟩ => rfl
  obtain ⟨j, h⟩ := answer_apply (prod X W) (ix2 (row c r) n)
  rw [e, h, OUT_eq D, gmax_eq D c j, prod_eq]
  refine scaled _ _ ?_
  rw [← prod_eq]
  exact (largest_le_iff (prod X W) j _).1 le_rfl _

end Cert.Agree

end
-- ==== Proof.lean ====
module

public import proofs.«01_k».proof.Defs
public import proofs.«01_k».proof.Proof.Launch
public import proofs.«01_k».proof.Proof.Bits.Launch
public import proofs.«01_k».proof.Proof.Gen.ReferenceIdeal.Frame
public import proofs.«01_k».proof.Proof.Agree

@[expose] public section

noncomputable section

namespace Cert.Proof

open Idealize.ShloMosaic Idealize.SL.Sem

/-- The kernel terminates without fault, with its arguments unchanged and its semaphores at rest. -/
theorem kernel_frame : quiescent_Kernel (hKernel := Cert.Kernel.Gen.facts) := fun m g _ =>
  θ_run_mono (Cert.Kernel.Own.run_main m g) fun _ h => ⟨fun c => (h.1 c).2, h.2⟩

/-- Its idealization likewise. -/
theorem ideal_frame : quiescent_KernelIdeal (hKernelIdeal := Cert.KernelIdeal.Gen.facts) := fun m g _ =>
  θ_run_mono (Cert.KernelIdeal.Own.run_main m g) fun _ h => ⟨fun c => (h.1 c).2, h.2⟩

/-- The reference likewise. -/
theorem reference_frame : quiescent_ReferenceIdeal (hReferenceIdeal := Cert.ReferenceIdeal.Gen.facts) :=
  fun m g _ => Cert.ReferenceIdeal.Gen.frame m g

/-- Device `c`'s result is block `c` of the rows of the reference's. -/
theorem agree : algebraic_KernelIdeal_ReferenceIdeal (hKernelIdeal := Cert.KernelIdeal.Gen.facts)
    (hReferenceIdeal := Cert.ReferenceIdeal.Gen.facts) := fun m g m' g' _ h =>
  have D : Cert.KernelIdeal.Own.Dealt m _ _ := ⟨fun c => (h c).1, fun c => (h c).2⟩
  ⟨_, θ_run_mono (Cert.KernelIdeal.Own.run_main m g) fun _ r c =>
      ⟨(r.1 c).1.trans (Cert.Agree.out_eq D c), (r.1 c).2⟩,
    θ_run_mono (Cert.ReferenceIdeal.Own.run_answer m' g') fun _ r => r 0⟩

theorem claim : Cert.Claim :=
  ⟨Cert.Kernel.Gen.facts, Cert.KernelIdeal.Gen.facts, Cert.ReferenceIdeal.Gen.facts,
    kernel_frame, ideal_frame, reference_frame, trivial, agree⟩

end Cert.Proof

end
